-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_connectivity [hPre_full_connectivity : Cert.Pre_full_connectivity.Facts] (m : (ℓ : Loc Cert.KernelIdeal.nD Cert.KernelIdeal.τ Cert.KernelIdeal.sig) → Buf (Elt Ideal) ℓ) : Prop :=
  ∀ c : Dev Cert.KernelIdeal.nD,
    (Cert.Pre_full_connectivity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_connectivity [hPre_full_connectivity : Cert.Pre_full_connectivity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_connectivity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_full_connectivity [hKernelIdeal : Cert.KernelIdeal.Facts] [hPre_full_connectivity : Cert.Pre_full_connectivity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_connectivity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_full_connectivity [hReferenceIdeal : Cert.ReferenceIdeal.Facts] [hPre_full_connectivity : Cert.Pre_full_connectivity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_connectivity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_full_connectivity [hKernelIdeal : Cert.KernelIdeal.Facts] [hReferenceIdeal : Cert.ReferenceIdeal.Facts] [hPre_full_connectivity : Cert.Pre_full_connectivity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_connectivity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_full_connectivity : Cert.Pre_full_connectivity.Facts),
    quiescent_Kernel (hKernel := hKernel)
    ∧ quiescent_KernelIdeal (hKernelIdeal := hKernelIdeal)
    ∧ quiescent_KernelIdeal_pre_full_connectivity (hKernelIdeal := hKernelIdeal) (hPre_full_connectivity := hPre_full_connectivity)
    ∧ quiescent_ReferenceIdeal (hReferenceIdeal := hReferenceIdeal)
    ∧ quiescent_ReferenceIdeal_pre_full_connectivity (hReferenceIdeal := hReferenceIdeal) (hPre_full_connectivity := hPre_full_connectivity)
    ∧ preserves_Kernel_KernelIdeal
    ∧ algebraic_KernelIdeal_ReferenceIdeal_pre_full_connectivity (hKernelIdeal := hKernelIdeal) (hReferenceIdeal := hReferenceIdeal) (hPre_full_connectivity := hPre_full_connectivity)
-- ==== Pre_full_connectivity.lean ====
abbrev S128x2048 : Shape := ⟨2, ![128, 2048]⟩
abbrev S8388608 : Shape := ⟨1, ![8388608]⟩
abbrev S4096 : Shape := ⟨1, ![4096]⟩
abbrev S10x4096 : Shape := ⟨2, ![10, 4096]⟩
abbrev S10 : Shape := ⟨1, ![10]⟩
abbrev S4096x2048 : Shape := ⟨2, ![4096, 2048]⟩

class Facts : Prop where
  shapeCasts_S8388608_S4096x2048 : S8388608.ShapeCasts S4096x2048

variable [Facts]

def fn {F : FTy → Type} [FloatOps F] (main_arg0 : FVec F S128x2048 .f32) (main_arg1 : FVec F S8388608 .f32) (main_arg2 : FVec F S4096 .f32) (main_arg3 : FVec F S10x4096 .f32) (main_arg4 : FVec F S10 .f32) (main_arg5 : IVec S8388608 32) (main_arg6 : IVec S8388608 32) : IVec S4096x2048 1 :=
  let main_v0 : IVec S4096x2048 32 := shapeCast S4096x2048 main_arg5 shapeCasts_S8388608_S4096x2048
  let main_v1 : IVec S4096x2048 32 := iotaInDim S4096x2048 32 0
  let main_v2 : IVec S4096x2048 1 := cmpi .eq main_v0 main_v1
  let main_v3 : IVec S4096x2048 32 := shapeCast S4096x2048 main_arg6 shapeCasts_S8388608_S4096x2048
  let main_v4 : IVec S4096x2048 32 := iotaInDim S4096x2048 32 1
  let main_v5 : IVec S4096x2048 1 := cmpi .eq main_v3 main_v4
  let main_v6 : IVec S4096x2048 1 := andi main_v2 main_v5
  main_v6
-- ==== Kernel.lean ====
abbrev S128x2048 : Shape := ⟨2, ![128, 2048]⟩
abbrev S8388608 : Shape := ⟨1, ![8388608]⟩
abbrev S4096 : Shape := ⟨1, ![4096]⟩
abbrev S10x4096 : Shape := ⟨2, ![10, 4096]⟩
abbrev S10 : Shape := ⟨1, ![10]⟩
abbrev S4096x16x128 : Shape := ⟨3, ![4096, 16, 128]⟩
abbrev S1x4096 : Shape := ⟨2, ![1, 4096]⟩
abbrev S1x10 : Shape := ⟨2, ![1, 10]⟩
abbrev S128x10 : Shape := ⟨2, ![128, 10]⟩
abbrev S128x4096 : Shape := ⟨2, ![128, 4096]⟩
abbrev S4x512x16x128 : Shape := ⟨4, ![4, 512, 16, 128]⟩
abbrev S4x128x512 : Shape := ⟨3, ![4, 128, 512]⟩
abbrev S4 : Shape := ⟨1, ![4]⟩
abbrev S1 : Shape := ⟨1, ![1]⟩
abbrev S_ : Shape := ⟨0, ![]⟩
abbrev S1x512x16x128 : Shape := ⟨4, ![1, 512, 16, 128]⟩
abbrev S512x16x128 : Shape := ⟨3, ![512, 16, 128]⟩
abbrev S512x2048 : Shape := ⟨2, ![512, 2048]⟩
abbrev S128x512 : Shape := ⟨2, ![128, 512]⟩
abbrev S1x512 : Shape := ⟨2, ![1, 512]⟩
abbrev S1x128x512 : Shape := ⟨3, ![1, 128, 512]⟩
abbrev S10x512 : Shape := ⟨2, ![10, 512]⟩

abbrev nBuf : Space → Nat
  | .hbm => 12
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S8388608, .f32⟩
  | .hbm, ⟨2, _⟩ => ⟨S4096, .f32⟩
  | .hbm, ⟨3, _⟩ => ⟨S10x4096, .f32⟩
  | .hbm, ⟨4, _⟩ => ⟨S10, .f32⟩
  | .hbm, ⟨5, _⟩ => ⟨S8388608, .i32⟩
  | .hbm, ⟨6, _⟩ => ⟨S8388608, .i32⟩
  | .hbm, ⟨7, _⟩ => ⟨S4096x16x128, .f32⟩
  | .hbm, ⟨8, _⟩ => ⟨S1x4096, .f32⟩
  | .hbm, ⟨9, _⟩ => ⟨S1x10, .f32⟩
  | .hbm, ⟨10, _⟩ => ⟨S128x10, .f32⟩
  | .hbm, ⟨11, _⟩ => ⟨S128x4096, .f32⟩
  | .local _ .vmem, ⟨0, _⟩ => ⟨S128x2048, .f32⟩
  | .local _ .vmem, ⟨1, _⟩ => ⟨S1x4096, .f32⟩
  | .local _ .vmem, ⟨2, _⟩ => ⟨S10x4096, .f32⟩
  | .local _ .vmem, ⟨3, _⟩ => ⟨S1x10, .f32⟩
  | .local _ .vmem, ⟨4, _⟩ => ⟨S128x10, .f32⟩
  | .local _ .vmem, ⟨5, _⟩ => ⟨S4x512x16x128, .f32⟩
  | .local _ .vmem, ⟨6, _⟩ => ⟨S4x128x512, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S128x2048 : Shape := ⟨2, ![128, 2048]⟩
abbrev S8388608 : Shape := ⟨1, ![8388608]⟩
abbrev S4096 : Shape := ⟨1, ![4096]⟩
abbrev S10x4096 : Shape := ⟨2, ![10, 4096]⟩
abbrev S10 : Shape := ⟨1, ![10]⟩
abbrev S_ : Shape := ⟨0, ![]⟩
abbrev S4096x2048 : Shape := ⟨2, ![4096, 2048]⟩
abbrev S8388608x1 : Shape := ⟨2, ![8388608, 1]⟩
abbrev S8388608x2 : Shape := ⟨2, ![8388608, 2]⟩
abbrev S2048x4096 : Shape := ⟨2, ![2048, 4096]⟩
abbrev S128x4096 : Shape := ⟨2, ![128, 4096]⟩
abbrev S1x4096 : Shape := ⟨2, ![1, 4096]⟩
abbrev S4096x10 : Shape := ⟨2, ![4096, 10]⟩
abbrev S128x10 : Shape := ⟨2, ![128, 10]⟩
abbrev S1x10 : Shape := ⟨2, ![1, 10]⟩

abbrev nBuf : Space → Nat
  | .hbm => 40
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S8388608, .f32⟩
  | .hbm, ⟨2, _⟩ => ⟨S4096, .f32⟩
  | .hbm, ⟨3, _⟩ => ⟨S10x4096, .f32⟩
  | .hbm, ⟨4, _⟩ => ⟨S10, .f32⟩
  | .hbm, ⟨5, _⟩ => ⟨S8388608, .i32⟩
  | .hbm, ⟨6, _⟩ => ⟨S8388608, .i32⟩
  | .hbm, ⟨7, _⟩ => ⟨S_, .f32⟩
  | .hbm, ⟨8, _⟩ => ⟨S4096x2048, .f32⟩
  | .hbm, ⟨9, _⟩ => ⟨S_, .i32⟩
  | .hbm, ⟨10, _⟩ => ⟨S8388608, .i32⟩
  | .hbm, ⟨11, _⟩ => ⟨S8388608, .i1⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608, .i32⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S8388608, .i32⟩
  | .hbm, ⟨21, _⟩ => ⟨S8388608, .i32⟩
  | .hbm, ⟨22, _⟩ => ⟨S8388608, .i32⟩
  | .hbm, ⟨23, _⟩ => ⟨S8388608x1, .i32⟩
  | .hbm, ⟨24, _⟩ => ⟨S8388608x1, .i32⟩
  | .hbm, ⟨25, _⟩ => ⟨S8388608x2, .i32⟩
  | .hbm, ⟨26, _⟩ => ⟨S4096x2048, .f32⟩
  | .hbm, ⟨27, _⟩ => ⟨S2048x4096, .f32⟩
  | .hbm, ⟨28, _⟩ => ⟨S128x4096, .f32⟩
  | .hbm, ⟨29, _⟩ => ⟨S1x4096, .f32⟩
  | .hbm, ⟨30, _⟩ => ⟨S128x4096, .f32⟩
  | .hbm, ⟨31, _⟩ => ⟨S128x4096, .f32⟩
  | .hbm, ⟨32, _⟩ => ⟨S_, .f32⟩
  | .hbm, ⟨33, _⟩ => ⟨S128x4096, .f32⟩
  | .hbm, ⟨34, _⟩ => ⟨S128x4096, .f32⟩
  | .hbm, ⟨35, _⟩ => ⟨S4096x10, .f32⟩
  | .hbm, ⟨36, _⟩ => ⟨S128x10, .f32⟩
  | .hbm, ⟨37, _⟩ => ⟨S1x10, .f32⟩
  | .hbm, ⟨38, _⟩ => ⟨S128x10, .f32⟩
  | .hbm, ⟨39, _⟩ => ⟨S128x10, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Reads.lean ====
/-
  What a block of a buffer reads through a view that drops its unit axis, and back.
-/
module

public import Idealize.ShloMosaic.Lib.Pipeline.FrameBody
public import Idealize.ShloMosaic.Lib.Writes
public import Idealize.ShloMosaic.PureOps

@[expose] public section

namespace Cert.Reads

open Idealize.ShloMosaic

variable {sig : RefSig} {κ : Kind} {sp : Space} {s s' : Shape} {e : EltTy} {Val : EltTy → Type}

/-- A load of a rectangle reads what the re-shaped view of that rectangle reads, at the matched index. -/
theorem readAt_of_reshape (v : View sig κ sp s e) (r : Rect s) (h : s'.numel = r.shape.numel) (f : v.ty.Contents Val)
    (p : s'.Idx → Val e) (hp : ((v.slice r).reshape s' h).read Val f = p) :
    v.readAt Val r.toLoadRect f = fun y => p (Shape.reshapeEquiv h.symm y) := by
  subst hp
  funext y
  have hy : Shape.reshapeEquiv h (Shape.reshapeEquiv h.symm y) = y := by
    rw [Shape.reshapeEquiv_reshapeEquiv, Shape.reshapeEquiv_self]
  exact congrArg ((v.slice r).read Val f) hy.symm

/-- The re-shaped view of a rectangle that was just stored reads the stored array, at the matched index. -/
theorem read_reshape_store (v : View sig κ sp s e) (r : Rect s) (h : s'.numel = r.shape.numel) (f : v.ty.Contents Val)
    (w : r.shape.Idx → Val e) :
    ((v.slice r).reshape s' h).read Val ((v.slice r).write Val f w Finset.univ) = fun y => w (Shape.reshapeEquiv h y) := by
  funext y
  exact View.read_write_of_mem (v := v.slice r) f w (Finset.mem_univ (Shape.reshapeEquiv h y))

/-- A view over which the whole of it was written last reads what was written. -/
theorem read_writes_whole_cons (v : View sig κ sp s e) (f : v.ty.Contents Val) (p : s.Idx → Val e) (L : List (View.Piece Val s e)) :
    v.read Val (v.writes Val f (⟨Rect.whole s, p⟩ :: L)) = p := by
  funext y
  have h := View.read_writes_cons_emb v f (Rect.whole s) p L y
  rwa [Rect.emb_whole_apply] at h

end Cert.Reads

end
-- ==== Proof.ModelIdeal.lean ====
/-
  The two arrays that the fused perceptron kernel computes, as functions of its operands: `latent`, the hidden layer, whose eight
  blocks of 512 columns are computed one after the other, and `out`, the second layer, summed over those blocks.
-/
module

public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen
open Idealize.ShloMosaic

variable {F : FTy → Type} [FloatOps F]

/-- The 512 rows of the first layer's weights from row `512 * i` on. -/
def wRect (i : Fin 8) : Rect S4096x16x128 := Rect.unit ![512 * i.val, 0, 0] S512x16x128.size (by revert i; decide)

/-- The 512 columns of the first layer's bias from column `512 * i` on. -/
def bRect (i : Fin 8) : Rect S1x4096 := Rect.unit ![0, 512 * i.val] S1x512.size (by revert i; decide)

/-- The 512 columns of the second layer's weights from column `512 * i` on. -/
def vRect (i : Fin 8) : Rect S10x4096 := Rect.unit ![0, 512 * i.val] S10x512.size (by revert i; decide)

/-- The 512 columns of the hidden layer from column `512 * i` on. -/
def lRect (i : Fin 8) : Rect S128x4096 := Rect.unit ![0, 512 * i.val] S128x512.size (by revert i; decide)

/-- Block `i` of the first layer's weights, with a leading unit axis. -/
def wTile (w : Vec F S4096x16x128 .f32) (i : Fin 8) : Vec F S1x512x16x128 .f32 :=
  shapeCast S1x512x16x128 (s := S512x16x128) (View.ld (Val := Elt F) (e' := .f32) w (wRect i))

/-- The whole input, as it is loaded. -/
def xAll (x : Vec F S128x2048 .f32) : Vec F S128x2048 .f32 :=
  View.ld (Val := Elt F) (e' := .f32) x (Rect.unit ![0, 0] S128x2048.size inb_S128x2048_S128x2048_0_0)

/-- Block `i` of the hidden layer: the product with the weights' block, the bias and the rectifier. -/
def hid (x : Vec F S128x2048 .f32) (w : Vec F S4096x16x128 .f32) (b : Vec F S1x4096 .f32) (i : Fin 8) : FVec F S128x512 .f32 :=
  k0_pay1 (wTile w i) (xAll x) (View.ld (Val := Elt F) (e' := .f32) b (bRect i))

/-- The hidden layer: column `c` is column `c % 512` of block `c / 512`. -/
def latent (x : Vec F S128x2048 .f32) (w : Vec F S4096x16x128 .f32) (b : Vec F S1x4096 .f32) : Vec F S128x4096 .f32 :=
  fun y => hid x w b ⟨(y 1).val / 512, by have := (y 1).isLt; change (y 1).val < 4096 at this; omega⟩
    (fun a => match a with
      | ⟨0, _⟩ => y 0
      | ⟨1, _⟩ => ⟨(y 1).val % 512, Nat.mod_lt _ (by decide)⟩)

/-- The second layer over the blocks up to the first: the first block's product and the bias; over one block more: its product added. -/
def acc (x : Vec F S128x2048 .f32) (w : Vec F S4096x16x128 .f32) (b : Vec F S1x4096 .f32) (v : Vec F S10x4096 .f32) (d : Vec F S1x10 .f32) :
    (n : ℕ) → n < 8 → FVec F S128x10 .f32
  | 0, _ => k0_pay3 (hid x w b 0) (View.ld (Val := Elt F) (e' := .f32) v (vRect 0))
      (View.ld (Val := Elt F) (e' := .f32) d (Rect.unit ![0, 0] S1x10.size inb_S1x10_S1x10_0_0))
  | n + 1, h => k0_pay6 (hid x w b ⟨n + 1, h⟩) (View.ld (Val := Elt F) (e' := .f32) v (vRect ⟨n + 1, h⟩))
      (acc x w b v d n (Nat.lt_of_succ_lt h))

/-- The second layer. -/
def out (x : Vec F S128x2048 .f32) (w : Vec F S4096x16x128 .f32) (b : Vec F S1x4096 .f32) (v : Vec F S10x4096 .f32) (d : Vec F S1x10 .f32) :
    FVec F S128x10 .f32 := acc x w b v d 7 (by decide)

/-- A block of the hidden layer is what was computed for it. -/
theorem latent_block (x : Vec F S128x2048 .f32) (w : Vec F S4096x16x128 .f32) (b : Vec F S1x4096 .f32) (i : Fin 8) (y : S128x512.Idx) :
    latent x w b ((lRect i).emb y) = hid x w b i y := by
  have h1 : (((lRect i).emb y) 1).val = 512 * i.val + (y 1).val := by
    show 512 * i.val + 1 * (y 1).val = _
    rw [Nat.one_mul]
  have hy : (y 1).val < 512 := (y 1).isLt
  unfold latent
  congr 1
  · exact Fin.ext (by show (((lRect i).emb y) 1).val / 512 = i.val; rw [h1]; omega)
  · funext a
    match a with
    | ⟨0, _⟩ => exact Fin.ext (by show 0 + 1 * (y 0).val = (y 0).val; omega)
    | ⟨1, _⟩ => exact Fin.ext (by show (((lRect i).emb y) 1).val % 512 = (y 1).val; rw [h1]; omega)

end Cert.KernelIdeal.Hand

end
-- ==== Proof.BodyIdeal.lean ====
/-
  The kernel's body run once: eight blocks of the first layer, each fetched into one of four slots, multiplied, and written back through
  one of four staging slots.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.ModelIdeal
public import proofs.«01_k».proof.Proof.Reads
public import Idealize.ShloMosaic.Lib.Pipeline.FrameBody
public import Idealize.ShloMosaic.Lib.Pipeline.FrameValue
public import Idealize.ShloMosaic.Lib.Ring
public import Idealize.ShloMosaic.Lib.ViewIndex
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four slots the weights are fetched into. -/
abbrev wbuf : Memref sig .tc .vmem S4x512x16x128 .f32 := Memref.whole cc0_scratch0
/-- The four slots the hidden layer is staged in. -/
abbrev stg : Memref sig .tc .vmem S4x128x512 .f32 := Memref.whole cc0_scratch1
/-- The first layer's weights in HBM. -/
abbrev w1h : Memref sig .tc .hbm S4096x16x128 .f32 := Memref.whole main_call0_v0
/-- The hidden layer in HBM. -/
abbrev lat : Memref sig .tc .hbm S128x4096 .f32 := Memref.whole main_v0_1

/-- One slot of the weights. -/
abbrev wslot (o : Fin 4 → ℕ) (h : ∀ a, o a + S1x512x16x128.size a ≤ S4x512x16x128.size a) : Memref sig .tc .vmem S512x16x128 .f32 :=
  (wbuf.slice (Rect.unit (s := S4x512x16x128) o S1x512x16x128.size h) (fun _ => rfl)).squeeze S512x16x128 squeezes_S1x512x16x128_S512x16x128
/-- One staging slot. -/
abbrev sslot (o : Fin 3 → ℕ) (h : ∀ a, o a + S1x128x512.size a ≤ S4x128x512.size a) : Memref sig .tc .vmem S128x512 .f32 :=
  (stg.slice (Rect.unit (s := S4x128x512) o S1x128x512.size h) (fun _ => rfl)).squeeze S128x512 squeezes_S1x128x512_S128x512
/-- A block of the weights. -/
abbrev wblk (o : Fin 3 → ℕ) (h : ∀ a, o a + S512x16x128.size a ≤ S4096x16x128.size a) : Memref sig .tc .hbm S512x16x128 .f32 :=
  w1h.slice (Rect.unit (s := S4096x16x128) o S512x16x128.size h) (fun _ => rfl)
/-- A block of columns of the hidden layer. -/
abbrev lblk (o : Fin 2 → ℕ) (h : ∀ a, o a + S128x512.size a ≤ S128x4096.size a) : Memref sig .tc .hbm S128x512 .f32 :=
  lat.slice (Rect.unit (s := S128x4096) o S128x512.size h) (fun _ => rfl)

/-- The contents of the buffer behind a view. -/
abbrev bufOf (c : Dev nD) {sp : Space} {S : Shape} {e : EltTy} (M : Memref sig .tc sp S e) : Type := Buf (Elt F) (M.view.loc (c : Thread nD τ))
/-- The elements of a view, owned in full, at given contents. -/
abbrev pt (c : Dev nD) {sp : Space} {S : Shape} {e : EltTy} (M : Memref sig .tc sp S e) (f : bufOf (F := F) c M) : sProp 𝕄 :=
  M.view.loc (c : Thread nD τ) ↦[M.view.set]{fullShare} f

/-- A load of a slot that was written whole reads what was written. -/
theorem wslot_load (o : Fin 4 → ℕ) (h : ∀ a, o a + S1x512x16x128.size a ≤ S4x512x16x128.size a)
    (f : (wslot o h).view.ty.Contents (Elt F)) (p : Vec F S512x16x128 .f32) (L : List (View.Piece (Elt F) S512x16x128 .f32)) :
    View.readAt (Elt F) wbuf.view (Rect.unit (s := S4x512x16x128) o S1x512x16x128.size h).toLoadRect
        ((wslot o h).view.writes (Elt F) f (⟨Rect.whole S512x16x128, p⟩ :: L)) = shapeCast S1x512x16x128 (s := S512x16x128) p :=
  Reads.readAt_of_reshape wbuf.view _ _ _ _ (Reads.read_writes_whole_cons (wslot o h).view f p L)

/-- A staging slot that was stored whole reads what was stored. -/
theorem sslot_read (o : Fin 3 → ℕ) (h : ∀ a, o a + S1x128x512.size a ≤ S4x128x512.size a)
    (f : (stg.access (Rect.unit (s := S4x128x512) o S1x128x512.size h)).ty.Contents (Elt F)) (p : Vec F S128x512 .f32) :
    View.read (Elt F) (sslot o h).view (View.write (Elt F) (stg.access (Rect.unit (s := S4x128x512) o S1x128x512.size h)) f
      (shapeCast S1x128x512 p shapeCasts_S128x512_S1x128x512) Finset.univ) = p := by
  refine (Reads.read_reshape_store stg.view (Rect.unit (s := S4x128x512) o S1x128x512.size h) _ f _).trans ?_
  funext y
  exact congrArg p ((Shape.reshapeEquiv_reshapeEquiv _ _ y).trans (Shape.reshapeEquiv_self _ y))

/-- A block of the hidden layer written whole holds the array whose block it was written with. -/
theorem lblk_done (c : Dev nD) (o : Fin 2 → ℕ) (h : ∀ a, o a + S128x512.size a ≤ S128x4096.size a) (fl g : bufOf (F := F) c lat)
    (p : Vec F S128x512 .f32) (hp : p = View.read (Elt F) (lblk o h).view g) :
    pt c (lblk o h) ((lblk o h).view.writes (Elt F) fl [⟨Rect.whole S128x512, p⟩]) ⊢ pt c (lblk o h) g := by
  refine Entails.of_eq (pointsTo_congr fun i hi => ?_)
  obtain ⟨y, -, rfl⟩ := Finset.mem_map.mp hi
  exact View.eq_of_read_eq (v := (lblk o h).view) (congrFun ((Reads.read_writes_whole_cons _ _ _ _).trans hp) y)

/-- A block of the hidden layer reads what was computed for it. -/
theorem lblk_latent (i : Fin 8) (h : ∀ a, (![0, 512 * i.val] : Fin 2 → ℕ) a + S128x512.size a ≤ S128x4096.size a)
    (x : Vec F S128x2048 .f32) (w : Vec F S4096x16x128 .f32) (b : Vec F S1x4096 .f32) :
    hid x w b i = View.read (Elt F) (lblk ![0, 512 * i.val] h).view (latent x w b) :=
  funext fun y => (latent_block x w b i y).symm

/-- What the body computes from a loaded block of the weights is the block of the hidden layer. -/
theorem hid_of (i : Fin 8) (x : Vec F S128x2048 .f32) (w : Vec F S4096x16x128 .f32) (b : Vec F S1x4096 .f32)
    (t : Vec F S1x512x16x128 .f32) (ht : t = wTile w i) :
    k0_pay1 t (xAll x) (View.ld (Val := Elt F) (e' := .f32) b (bRect i)) = hid x w b i := by
  subst ht; rfl

/-- One block more of the second layer: its product added to the sum that is loaded back. -/
theorem acc_of (n : ℕ) (hn : n + 1 < 8) (x : Vec F S128x2048 .f32) (w : Vec F S4096x16x128 .f32) (b : Vec F S1x4096 .f32)
    (v : Vec F S10x4096 .f32) (d : Vec F S1x10 .f32) (H : FVec F S128x512 .f32) (a : FVec F S128x10 .f32)
    (hH : H = hid x w b ⟨n + 1, hn⟩) (ha : a = acc x w b v d n (Nat.lt_of_succ_lt hn)) :
    k0_pay6 H (View.ld (Val := Elt F) (e' := .f32) v (vRect ⟨n + 1, hn⟩)) a = acc x w b v d (n + 1) hn := by
  subst hH ha; rfl

/-- The body from its five windows, the weights, the eight blocks of the hidden layer and the slots: the windows it reads, the weights
    and the counters are as they were, the output window reads `out`, every block of the hidden layer holds `latent`. -/
theorem body_run (c : Dev nD) (x : Memref sig .tc .vmem S128x2048 .f32) (hx : x.IsWhole) (b1 : Memref sig .tc .vmem S1x4096 .f32) (hb1 : b1.IsWhole)
   (w2 : Memref sig .tc .vmem S10x4096 .f32) (hw2 : w2.IsWhole) (b2 : Memref sig .tc .vmem S1x10 .f32) (hb2 : b2.IsWhole)
   (o : Memref sig .tc .vmem S128x10 .f32) (ho : o.IsWhole)
   (fx : bufOf (F := F) c x) (fb1 : bufOf (F := F) c b1) (fw2 : bufOf (F := F) c w2) (fb2 : bufOf (F := F) c b2) (fo : bufOf (F := F) c o)
   (fw : bufOf (F := F) c w1h) (fl : bufOf (F := F) c lat) (g0 g1 g2 g3 : bufOf (F := F) c wbuf) (s0 s1 s2 s3 : bufOf (F := F) c stg)
   (W : Waits sig Unit) (K : PUnit → sProp 𝕄) :
   iprop(pt c x fx ∗ pt c b1 fb1 ∗ pt c w2 fw2 ∗ pt c b2 fb2 ∗ pt c o fo
     ∗ pt c w1h fw
     ∗ pt c (lblk ![0, 0] inb_S128x4096_S128x512_0_0) fl
     ∗ pt c (lblk ![0, 512] inb_S128x4096_S128x512_0_512) fl
     ∗ pt c (lblk ![0, 1024] inb_S128x4096_S128x512_0_1024) fl
     ∗ pt c (lblk ![0, 1536] inb_S128x4096_S128x512_0_1536) fl
     ∗ pt c (lblk ![0, 2048] inb_S128x4096_S128x512_0_2048) fl
     ∗ pt c (lblk ![0, 2560] inb_S128x4096_S128x512_0_2560) fl
     ∗ pt c (lblk ![0, 3072] inb_S128x4096_S128x512_0_3072) fl
     ∗ pt c (lblk ![0, 3584] inb_S128x4096_S128x512_0_3584) fl
     ∗ pt c (wslot ![0, 0, 0, 0] inb_S4x512x16x128_S1x512x16x128_0_0_0_0) g0
     ∗ pt c (wslot ![1, 0, 0, 0] inb_S4x512x16x128_S1x512x16x128_1_0_0_0) g1
     ∗ pt c (wslot ![2, 0, 0, 0] inb_S4x512x16x128_S1x512x16x128_2_0_0_0) g2
     ∗ pt c (wslot ![3, 0, 0, 0] inb_S4x512x16x128_S1x512x16x128_3_0_0_0) g3
     ∗ pt c (sslot ![0, 0, 0] inb_S4x128x512_S1x128x512_0_0_0) s0
     ∗ pt c (sslot ![1, 0, 0] inb_S4x128x512_S1x128x512_1_0_0) s1
     ∗ pt c (sslot ![2, 0, 0] inb_S4x128x512_S1x128x512_2_0_0) s2
     ∗ pt c (sslot ![3, 0, 0] inb_S4x128x512_S1x128x512_3_0_0) s3
     ∗ semVal ((c : Thread nD τ), SemLoc.dma 5) 0
     ∗ semVal ((c : Thread nD τ), SemLoc.dma 6) 0
     ∗ semVal ((c : Thread nD τ), SemLoc.dma 7) 0
     ∗ semVal ((c : Thread nD τ), SemLoc.dma 8) 0
     ∗ semVal ((c : Thread nD τ), SemLoc.dma 9) 0
     ∗ semVal ((c : Thread nD τ), SemLoc.dma 10) 0
     ∗ semVal ((c : Thread nD τ), SemLoc.dma 11) 0
     ∗ semVal ((c : Thread nD τ), SemLoc.dma 12) 0
     ∗ owes (c : Thread nD τ) 0 W
     ∗ (iprop(pt c x fx ∗ pt c b1 fb1 ∗ pt c w2 fw2 ∗ pt c b2 fb2
     ∗ (∃ f, ⌜View.read (Elt F) o.view f = out (View.read (Elt F) x.view fx) fw (View.read (Elt F) b1.view fb1) (View.read (Elt F) w2.view fw2) (View.read (Elt F) b2.view fb2)⌝ ∗ pt c o f)
     ∗ pt c w1h fw
     ∗ pt c (lblk ![0, 0] inb_S128x4096_S128x512_0_0) (latent (View.read (Elt F) x.view fx) fw (View.read (Elt F) b1.view fb1))
     ∗ pt c (lblk ![0, 512] inb_S128x4096_S128x512_0_512) (latent (View.read (Elt F) x.view fx) fw (View.read (Elt F) b1.view fb1))
     ∗ pt c (lblk ![0, 1024] inb_S128x4096_S128x512_0_1024) (latent (View.read (Elt F) x.view fx) fw (View.read (Elt F) b1.view fb1))
     ∗ pt c (lblk ![0, 1536] inb_S128x4096_S128x512_0_1536) (latent (View.read (Elt F) x.view fx) fw (View.read (Elt F) b1.view fb1))
     ∗ pt c (lblk ![0, 2048] inb_S128x4096_S128x512_0_2048) (latent (View.read (Elt F) x.view fx) fw (View.read (Elt F) b1.view fb1))
     ∗ pt c (lblk ![0, 2560] inb_S128x4096_S128x512_0_2560) (latent (View.read (Elt F) x.view fx) fw (View.read (Elt F) b1.view fb1))
     ∗ pt c (lblk ![0, 3072] inb_S128x4096_S128x512_0_3072) (latent (View.read (Elt F) x.view fx) fw (View.read (Elt F) b1.view fb1))
     ∗ pt c (lblk ![0, 3584] inb_S128x4096_S128x512_0_3584) (latent (View.read (Elt F) x.view fx) fw (View.read (Elt F) b1.view fb1))
     ∗ (∃ f, pt c (wslot ![0, 0, 0, 0] inb_S4x512x16x128_S1x512x16x128_0_0_0_0) f)
     ∗ (∃ f, pt c (wslot ![1, 0, 0, 0] inb_S4x512x16x128_S1x512x16x128_1_0_0_0) f)
     ∗ (∃ f, pt c (wslot ![2, 0, 0, 0] inb_S4x512x16x128_S1x512x16x128_2_0_0_0) f)
     ∗ (∃ f, pt c (wslot ![3, 0, 0, 0] inb_S4x512x16x128_S1x512x16x128_3_0_0_0) f)
     ∗ (∃ f, pt c (sslot ![0, 0, 0] inb_S4x128x512_S1x128x512_0_0_0) f)
     ∗ (∃ f, pt c (sslot ![1, 0, 0] inb_S4x128x512_S1x128x512_1_0_0) f)
     ∗ (∃ f, pt c (sslot ![2, 0, 0] inb_S4x128x512_S1x128x512_2_0_0) f)
     ∗ (∃ f, pt c (sslot ![3, 0, 0] inb_S4x128x512_S1x128x512_3_0_0) f)
     ∗ semVal ((c : Thread nD τ), SemLoc.dma 5) 0
     ∗ semVal ((c : Thread nD τ), SemLoc.dma 6) 0
     ∗ semVal ((c : Thread nD τ), SemLoc.dma 7) 0
     ∗ semVal ((c : Thread nD τ), SemLoc.dma 8) 0
     ∗ semVal ((c : Thread nD τ), SemLoc.dma 9) 0
     ∗ semVal ((c : Thread nD τ), SemLoc.dma 10) 0
     ∗ semVal ((c : Thread nD τ), SemLoc.dma 11) 0
     ∗ semVal ((c : Thread nD τ), SemLoc.dma 12) 0
     ∗ (∃ W', owes (c : Thread nD τ) 0 W')) -∗ K ⟨⟩))
   ⊢ wp frame (wpE (defs₀ (F := F)) Variants.none c none) Set.univ (
       cc0__fused_mlp_kernel x hx w1h (Memref.isWhole_whole _) b1 hb1 w2 hw2 b2 hb2 o ho lat (Memref.isWhole_whole _) wbuf (Memref.isWhole_whole _) stg (Memref.isWhole_whole _) cc0_scratch2 cc0_scratch3) K := by
  simp only [cc0__fused_mlp_kernel_eq_skeleton]
  unfold cc0__fused_mlp_kernel_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  iintro ⟨Hx, Hb1, Hw2, Hb2, Ho, Hw, Hl0, Hl1, Hl2, Hl3, Hl4, Hl5, Hl6, Hl7, Hg0, Hg1, Hg2, Hg3, Hs0, Hs1, Hs2, Hs3, Hq0, Hq1, Hq2, Hq3, Hr0, Hr1, Hr2, Hr3, HW, HK⟩
  sl_exec
  sl_step
  let X := View.read (Elt F) x.view fx
  let B := View.read (Elt F) b1.view fb1
  let V := View.read (Elt F) w2.view fw2
  let D := View.read (Elt F) b2.view fb2
  have t0 : body_run.sl.v25 c fw = wTile fw 0 := wslot_load _ _ _ _ _
  have t1 : body_run.sl.v61 c fw = wTile fw 1 := wslot_load _ _ _ _ _
  have t2 : body_run.sl.v96 c fw = wTile fw 2 := wslot_load _ _ _ _ _
  have t3 : body_run.sl.v131 c fw = wTile fw 3 := wslot_load _ _ _ _ _
  have t4 : body_run.sl.v166 c fw = wTile fw 4 := wslot_load _ _ _ _ _
  have t5 : body_run.sl.v201 c fw = wTile fw 5 := wslot_load _ _ _ _ _
  have t6 : body_run.sl.v236 c fw = wTile fw 6 := wslot_load _ _ _ _ _
  have t7 : body_run.sl.v271 c fw = wTile fw 7 := wslot_load _ _ _ _ _
  have h0 := hid_of 0 X fw B _ t0
  have h1 := hid_of 1 X fw B _ t1
  have h2 := hid_of 2 X fw B _ t2
  have h3 := hid_of 3 X fw B _ t3
  have h4 := hid_of 4 X fw B _ t4
  have h5 := hid_of 5 X fw B _ t5
  have h6 := hid_of 6 X fw B _ t6
  have h7 := hid_of 7 X fw B _ t7
  have a0 : body_run.sl.v87 c x b1 w2 b2 o fx fb1 fw2 fb2 fw = acc X fw B V D 0 (by decide) :=
    (View.readCov_cons_toLoadRect _ _ _ _).trans (congrArg (fun H => k0_pay3 H _ _) h0)
  have a1 : body_run.sl.v122 c x b1 w2 b2 o fx fb1 fw2 fb2 fw = acc X fw B V D 1 (by decide) :=
    (View.readCov_cons_toLoadRect _ _ _ _).trans (acc_of 0 (by decide) X fw B V D _ _ h1 a0)
  have a2 : body_run.sl.v157 c x b1 w2 b2 o fx fb1 fw2 fb2 fw = acc X fw B V D 2 (by decide) :=
    (View.readCov_cons_toLoadRect _ _ _ _).trans (acc_of 1 (by decide) X fw B V D _ _ h2 a1)
  have a3 : body_run.sl.v192 c x b1 w2 b2 o fx fb1 fw2 fb2 fw = acc X fw B V D 3 (by decide) :=
    (View.readCov_cons_toLoadRect _ _ _ _).trans (acc_of 2 (by decide) X fw B V D _ _ h3 a2)
  have a4 : body_run.sl.v227 c x b1 w2 b2 o fx fb1 fw2 fb2 fw = acc X fw B V D 4 (by decide) :=
    (View.readCov_cons_toLoadRect _ _ _ _).trans (acc_of 3 (by decide) X fw B V D _ _ h4 a3)
  have a5 : body_run.sl.v262 c x b1 w2 b2 o fx fb1 fw2 fb2 fw = acc X fw B V D 5 (by decide) :=
    (View.readCov_cons_toLoadRect _ _ _ _).trans (acc_of 4 (by decide) X fw B V D _ _ h5 a4)
  have a6 : body_run.sl.v297 c x b1 w2 b2 o fx fb1 fw2 fb2 fw = acc X fw B V D 6 (by decide) :=
    (View.readCov_cons_toLoadRect _ _ _ _).trans (acc_of 5 (by decide) X fw B V D _ _ h6 a5)
  have e0 := lblk_done c _ inb_S128x4096_S128x512_0_0 fl (latent X fw B) (body_run.sl.dma5 c x b1 fx fb1 fw s0)
    ((sslot_read _ _ _ _).trans (h0.trans (lblk_latent 0 _ X fw B)))
  have e1 := lblk_done c _ inb_S128x4096_S128x512_0_512 fl (latent X fw B) (body_run.sl.dma14 c x b1 fx fb1 fw s1)
    ((sslot_read _ _ _ _).trans (h1.trans (lblk_latent 1 _ X fw B)))
  have e2 := lblk_done c _ inb_S128x4096_S128x512_0_1024 fl (latent X fw B) (body_run.sl.dma23 c x b1 fx fb1 fw s2)
    ((sslot_read _ _ _ _).trans (h2.trans (lblk_latent 2 _ X fw B)))
  have e3 := lblk_done c _ inb_S128x4096_S128x512_0_1536 fl (latent X fw B) (body_run.sl.dma32 c x b1 fx fb1 fw s3)
    ((sslot_read _ _ _ _).trans (h3.trans (lblk_latent 3 _ X fw B)))
  have e4 := lblk_done c _ inb_S128x4096_S128x512_0_2048 fl (latent X fw B) (body_run.sl.dma41 c x b1 fx fb1 fw s0)
    ((sslot_read _ _ _ _).trans (h4.trans (lblk_latent 4 _ X fw B)))
  have e5 := lblk_done c _ inb_S128x4096_S128x512_0_2560 fl (latent X fw B) (body_run.sl.dma50 c x b1 fx fb1 fw s1)
    ((sslot_read _ _ _ _).trans (h5.trans (lblk_latent 5 _ X fw B)))
  have e6 := lblk_done c _ inb_S128x4096_S128x512_0_3072 fl (latent X fw B) (body_run.sl.dma59 c x b1 fx fb1 fw s2)
    ((sslot_read _ _ _ _).trans (h6.trans (lblk_latent 6 _ X fw B)))
  have e7 := lblk_done c _ inb_S128x4096_S128x512_0_3584 fl (latent X fw B) (body_run.sl.dma68 c x b1 fx fb1 fw s3)
    ((sslot_read _ _ _ _).trans (h7.trans (lblk_latent 7 _ X fw B)))
  iapply HK
  isplitl [Hx]
  · iexact Hx
  isplitl [Hb1]
  · iexact Hb1
  isplitl [Hw2]
  · iexact Hw2
  isplitl [Hb2]
  · iexact Hb2
  isplitl [Ho]
  · iexists _
    isplitr
    rotate_left
    · iexact Ho
    · ipureintro
      exact (View.read_writes_full _ _ _ _ _).trans (acc_of 6 (by decide) X fw B V D _ _ h7 a6)
  isplitl [Hw]
  · iexact Hw
  isplitl [Hl0]
  · iapply e0
    iexact Hl0
  isplitl [Hl1]
  · iapply e1
    iexact Hl1
  isplitl [Hl2]
  · iapply e2
    iexact Hl2
  isplitl [Hl3]
  · iapply e3
    iexact Hl3
  isplitl [Hl4]
  · iapply e4
    iexact Hl4
  isplitl [Hl5]
  · iapply e5
    iexact Hl5
  isplitl [Hl6]
  · iapply e6
    iexact Hl6
  isplitl [Hl7]
  · iapply e7
    iexact Hl7
  isplitl [Hg0]
  · iexists _
    iexact Hg0
  isplitl [Hg1]
  · iexists _
    iexact Hg1
  isplitl [Hg2]
  · iexists _
    iexact Hg2
  isplitl [Hg3]
  · iexists _
    iexact Hg3
  isplitl [Hs0]
  · iexists _
    iexact Hs0
  isplitl [Hs1]
  · iexists _
    iexact Hs1
  isplitl [Hs2]
  · iexists _
    iexact Hs2
  isplitl [Hs3]
  · iexists _
    iexact Hs3
  isplitl [Hq0]
  · iexact Hq0
  isplitl [Hq1]
  · iexact Hq1
  isplitl [Hq2]
  · iexact Hq2
  isplitl [Hq3]
  · iexact Hq3
  isplitl [Hr0]
  · iexact Hr0
  isplitl [Hr1]
  · iexact Hr1
  isplitl [Hr2]
  · iexact Hr2
  isplitl [Hr3]
  · iexact Hr3
  iexists _
  iexact HW

end Cert.KernelIdeal.Hand

end
-- ==== Proof.SlotsIdeal.lean ====
/-
  The two scratch buffers cut into their four slots and the hidden layer cut into its eight blocks of columns, and put together again.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.BodyIdeal
public import Idealize.ShloMosaic.Lib.Pipeline.FrameBody
public import Idealize.ShloMosaic.Lib.Pipeline.FrameValue
public import Idealize.ShloMosaic.Lib.Ring
public import Idealize.ShloMosaic.Lib.Ring.AtN
public import Idealize.ShloMosaic.Lib.ViewIndex
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The elements of the weights' slot `k`. -/
def wSet (k : Fin 4) : Finset (S4x512x16x128.Idx) :=
  (Rect.unit (s := S4x512x16x128) ![k.val, 0, 0, 0] S1x512x16x128.size (by revert k; decide)).set

/-- The elements of the staging slot `k`. -/
def sSet (k : Fin 4) : Finset (S4x128x512.Idx) :=
  (Rect.unit (s := S4x128x512) ![k.val, 0, 0] S1x128x512.size (by revert k; decide)).set

theorem wSet_disjoint (k k' : Fin 4) (h : k ≠ k') : Disjoint (wSet k) (wSet k') :=
  Ring.lead_disjoint (s := S4x512x16x128) 0 1 (fun k : Fin 4 => ![k.val, 0, 0, 0]) S1x512x16x128.size (by decide) (by decide) rfl k k' h

theorem wSet_cover : Finset.univ.biUnion wSet = Finset.univ :=
  Ring.lead_cover (s := S4x512x16x128) 0 1 (fun k : Fin 4 => ![k.val, 0, 0, 0]) S1x512x16x128.size (by decide) (by decide) (by decide) rfl
    (by decide) rfl

theorem sSet_disjoint (k k' : Fin 4) (h : k ≠ k') : Disjoint (sSet k) (sSet k') :=
  Ring.lead_disjoint (s := S4x128x512) 0 1 (fun k : Fin 4 => ![k.val, 0, 0]) S1x128x512.size (by decide) (by decide) rfl k k' h

theorem sSet_cover : Finset.univ.biUnion sSet = Finset.univ :=
  Ring.lead_cover (s := S4x128x512) 0 1 (fun k : Fin 4 => ![k.val, 0, 0]) S1x128x512.size (by decide) (by decide) (by decide) rfl
    (by decide) rfl

theorem lRect_disjoint (i i' : Fin 8) (h : i ≠ i') : Disjoint (lRect i).set (lRect i').set :=
  Ring.lead_disjoint (s := S128x4096) 1 512 (fun i : Fin 8 => ![0, 512 * i.val]) S128x512.size (by decide) (by decide) rfl i i' h

theorem lRect_cover : Finset.univ.biUnion (fun i => (lRect i).set) = Finset.univ :=
  Ring.lead_cover (s := S128x4096) 1 512 (fun i : Fin 8 => ![0, 512 * i.val]) S128x512.size (by decide) (by decide) (by decide) rfl
    (by decide) rfl

/-- A slot of the weights, owned, is its element set, owned. -/
theorem pt_wslot (c : Dev nD) (k : Fin 4) (o : Fin 4 → ℕ) (h : ∀ a, o a + S1x512x16x128.size a ≤ S4x512x16x128.size a)
    (ho : o = ![k.val, 0, 0, 0]) (f : bufOf (F := F) c wbuf) :
    pt c (wslot o h) f = (wbuf.view.loc (c : Thread nD τ) ↦[wSet k]{fullShare} f) := by
  subst ho
  exact congrArg (fun S => (wbuf.view.loc (c : Thread nD τ) ↦[S]{fullShare} f : sProp 𝕄)) ((View.set_reshape _ _).trans (View.set_slice_whole _ _))

/-- A staging slot, owned, is its element set, owned. -/
theorem pt_sslot (c : Dev nD) (k : Fin 4) (o : Fin 3 → ℕ) (h : ∀ a, o a + S1x128x512.size a ≤ S4x128x512.size a)
    (ho : o = ![k.val, 0, 0]) (f : bufOf (F := F) c stg) :
    pt c (sslot o h) f = (stg.view.loc (c : Thread nD τ) ↦[sSet k]{fullShare} f) := by
  subst ho
  exact congrArg (fun S => (stg.view.loc (c : Thread nD τ) ↦[S]{fullShare} f : sProp 𝕄)) ((View.set_reshape _ _).trans (View.set_slice_whole _ _))

/-- A block of the hidden layer, owned, is its element set, owned. -/
theorem pt_lblk (c : Dev nD) (i : Fin 8) (o : Fin 2 → ℕ) (h : ∀ a, o a + S128x512.size a ≤ S128x4096.size a)
    (ho : o = ![0, 512 * i.val]) (f : bufOf (F := F) c lat) :
    pt c (lblk o h) f = (lat.view.loc (c : Thread nD τ) ↦[(lRect i).set]{fullShare} f) := by
  subst ho
  exact congrArg (fun S => (lat.view.loc (c : Thread nD τ) ↦[S]{fullShare} f : sProp 𝕄)) (View.set_slice_whole _ _)

/-- The weights' scratch is its four slots; -/
theorem wbuf_split (c : Dev nD) :
    (iprop(∃ f, wbuf.view.loc (c : Thread nD τ) ↦{fullShare} f) : sProp 𝕄) ⊢
      iprop((∃ f, pt c (wslot ![0, 0, 0, 0] inb_S4x512x16x128_S1x512x16x128_0_0_0_0) f) ∗ (∃ f, pt c (wslot ![1, 0, 0, 0] inb_S4x512x16x128_S1x512x16x128_1_0_0_0) f)
        ∗ (∃ f, pt c (wslot ![2, 0, 0, 0] inb_S4x512x16x128_S1x512x16x128_2_0_0_0) f) ∗ ∃ f, pt c (wslot ![3, 0, 0, 0] inb_S4x512x16x128_S1x512x16x128_3_0_0_0) f) :=
  Ring.slots4_split (ℓ := wbuf.view.loc (c : Thread nD τ)) wSet wSet_disjoint wSet_cover
    (fun f => pt c (wslot ![0, 0, 0, 0] inb_S4x512x16x128_S1x512x16x128_0_0_0_0) f) (fun f => pt c (wslot ![1, 0, 0, 0] inb_S4x512x16x128_S1x512x16x128_1_0_0_0) f) (fun f => pt c (wslot ![2, 0, 0, 0] inb_S4x512x16x128_S1x512x16x128_2_0_0_0) f) (fun f => pt c (wslot ![3, 0, 0, 0] inb_S4x512x16x128_S1x512x16x128_3_0_0_0) f)
    (pt_wslot c 0 _ inb_S4x512x16x128_S1x512x16x128_0_0_0_0 rfl) (pt_wslot c 1 _ inb_S4x512x16x128_S1x512x16x128_1_0_0_0 rfl) (pt_wslot c 2 _ inb_S4x512x16x128_S1x512x16x128_2_0_0_0 rfl) (pt_wslot c 3 _ inb_S4x512x16x128_S1x512x16x128_3_0_0_0 rfl)

/-- and the four slots are the weights' scratch. -/
theorem wbuf_join (c : Dev nD) :
    (iprop((∃ f, pt c (wslot ![0, 0, 0, 0] inb_S4x512x16x128_S1x512x16x128_0_0_0_0) f) ∗ (∃ f, pt c (wslot ![1, 0, 0, 0] inb_S4x512x16x128_S1x512x16x128_1_0_0_0) f)
        ∗ (∃ f, pt c (wslot ![2, 0, 0, 0] inb_S4x512x16x128_S1x512x16x128_2_0_0_0) f) ∗ ∃ f, pt c (wslot ![3, 0, 0, 0] inb_S4x512x16x128_S1x512x16x128_3_0_0_0) f) : sProp 𝕄) ⊢
      iprop(∃ f, wbuf.view.loc (c : Thread nD τ) ↦{fullShare} f) :=
  Ring.slots4_join (ℓ := wbuf.view.loc (c : Thread nD τ)) wSet wSet_disjoint wSet_cover
    (fun f => pt c (wslot ![0, 0, 0, 0] inb_S4x512x16x128_S1x512x16x128_0_0_0_0) f) (fun f => pt c (wslot ![1, 0, 0, 0] inb_S4x512x16x128_S1x512x16x128_1_0_0_0) f) (fun f => pt c (wslot ![2, 0, 0, 0] inb_S4x512x16x128_S1x512x16x128_2_0_0_0) f) (fun f => pt c (wslot ![3, 0, 0, 0] inb_S4x512x16x128_S1x512x16x128_3_0_0_0) f)
    (pt_wslot c 0 _ inb_S4x512x16x128_S1x512x16x128_0_0_0_0 rfl) (pt_wslot c 1 _ inb_S4x512x16x128_S1x512x16x128_1_0_0_0 rfl) (pt_wslot c 2 _ inb_S4x512x16x128_S1x512x16x128_2_0_0_0 rfl) (pt_wslot c 3 _ inb_S4x512x16x128_S1x512x16x128_3_0_0_0 rfl)

/-- The staging scratch is its four slots; -/
theorem stg_split (c : Dev nD) :
    (iprop(∃ f, stg.view.loc (c : Thread nD τ) ↦{fullShare} f) : sProp 𝕄) ⊢
      iprop((∃ f, pt c (sslot ![0, 0, 0] inb_S4x128x512_S1x128x512_0_0_0) f) ∗ (∃ f, pt c (sslot ![1, 0, 0] inb_S4x128x512_S1x128x512_1_0_0) f)
        ∗ (∃ f, pt c (sslot ![2, 0, 0] inb_S4x128x512_S1x128x512_2_0_0) f) ∗ ∃ f, pt c (sslot ![3, 0, 0] inb_S4x128x512_S1x128x512_3_0_0) f) :=
  Ring.slots4_split (ℓ := stg.view.loc (c : Thread nD τ)) sSet sSet_disjoint sSet_cover
    (fun f => pt c (sslot ![0, 0, 0] inb_S4x128x512_S1x128x512_0_0_0) f) (fun f => pt c (sslot ![1, 0, 0] inb_S4x128x512_S1x128x512_1_0_0) f) (fun f => pt c (sslot ![2, 0, 0] inb_S4x128x512_S1x128x512_2_0_0) f) (fun f => pt c (sslot ![3, 0, 0] inb_S4x128x512_S1x128x512_3_0_0) f)
    (pt_sslot c 0 _ inb_S4x128x512_S1x128x512_0_0_0 rfl) (pt_sslot c 1 _ inb_S4x128x512_S1x128x512_1_0_0 rfl) (pt_sslot c 2 _ inb_S4x128x512_S1x128x512_2_0_0 rfl) (pt_sslot c 3 _ inb_S4x128x512_S1x128x512_3_0_0 rfl)

/-- and the four slots are the staging scratch. -/
theorem stg_join (c : Dev nD) :
    (iprop((∃ f, pt c (sslot ![0, 0, 0] inb_S4x128x512_S1x128x512_0_0_0) f) ∗ (∃ f, pt c (sslot ![1, 0, 0] inb_S4x128x512_S1x128x512_1_0_0) f)
        ∗ (∃ f, pt c (sslot ![2, 0, 0] inb_S4x128x512_S1x128x512_2_0_0) f) ∗ ∃ f, pt c (sslot ![3, 0, 0] inb_S4x128x512_S1x128x512_3_0_0) f) : sProp 𝕄) ⊢
      iprop(∃ f, stg.view.loc (c : Thread nD τ) ↦{fullShare} f) :=
  Ring.slots4_join (ℓ := stg.view.loc (c : Thread nD τ)) sSet sSet_disjoint sSet_cover
    (fun f => pt c (sslot ![0, 0, 0] inb_S4x128x512_S1x128x512_0_0_0) f) (fun f => pt c (sslot ![1, 0, 0] inb_S4x128x512_S1x128x512_1_0_0) f) (fun f => pt c (sslot ![2, 0, 0] inb_S4x128x512_S1x128x512_2_0_0) f) (fun f => pt c (sslot ![3, 0, 0] inb_S4x128x512_S1x128x512_3_0_0) f)
    (pt_sslot c 0 _ inb_S4x128x512_S1x128x512_0_0_0 rfl) (pt_sslot c 1 _ inb_S4x128x512_S1x128x512_1_0_0 rfl) (pt_sslot c 2 _ inb_S4x128x512_S1x128x512_2_0_0 rfl) (pt_sslot c 3 _ inb_S4x128x512_S1x128x512_3_0_0 rfl)

/-- The hidden layer at given contents is its eight blocks at those contents. -/
theorem lat_blocks (c : Dev nD) (f : bufOf (F := F) c lat) :
    (lat.view.loc (c : Thread nD τ) ↦{fullShare} f : sProp 𝕄) =
      iprop(pt c (lblk ![0, 0] inb_S128x4096_S128x512_0_0) f
        ∗ pt c (lblk ![0, 512] inb_S128x4096_S128x512_0_512) f
        ∗ pt c (lblk ![0, 1024] inb_S128x4096_S128x512_0_1024) f
        ∗ pt c (lblk ![0, 1536] inb_S128x4096_S128x512_0_1536) f
        ∗ pt c (lblk ![0, 2048] inb_S128x4096_S128x512_0_2048) f
        ∗ pt c (lblk ![0, 2560] inb_S128x4096_S128x512_0_2560) f
        ∗ pt c (lblk ![0, 3072] inb_S128x4096_S128x512_0_3072) f
        ∗ pt c (lblk ![0, 3584] inb_S128x4096_S128x512_0_3584) f) := by
  rw [Ring.pointsTo_blocks (ℓ := lat.view.loc (c : Thread nD τ)) (fun i : Fin 8 => (lRect i).set) lRect_disjoint lRect_cover f,
    BI.bigSep_eq_bigSepL_of_eq [0, 1, 2, 3, 4, 5, 6, 7] (by decide) (by decide)]
  rw [pt_lblk c 0 _ inb_S128x4096_S128x512_0_0 rfl,
    pt_lblk c 1 _ inb_S128x4096_S128x512_0_512 rfl,
    pt_lblk c 2 _ inb_S128x4096_S128x512_0_1024 rfl,
    pt_lblk c 3 _ inb_S128x4096_S128x512_0_1536 rfl,
    pt_lblk c 4 _ inb_S128x4096_S128x512_0_2048 rfl,
    pt_lblk c 5 _ inb_S128x4096_S128x512_0_2560 rfl,
    pt_lblk c 6 _ inb_S128x4096_S128x512_0_3072 rfl,
    pt_lblk c 7 _ inb_S128x4096_S128x512_0_3584 rfl]
  rfl

end Cert.KernelIdeal.Hand

end
-- ==== Proof.RunIdeal.lean ====
/-
  The launch: the data of the one region, the body's obligation in it, and the run of the whole program, with what every array holds at
  the end named.
-/
module

public import proofs.«01_k».proof.Proof.Gen.KernelIdeal.Launch
public import proofs.«01_k».proof.Proof.Gen.KernelIdeal.Frame
public import proofs.«01_k».proof.Proof.BodyIdeal
public import proofs.«01_k».proof.Proof.SlotsIdeal
public import Idealize.ShloMosaic.Lib.Pipeline.FrameBody
public import Idealize.ShloMosaic.Lib.Pipeline.FrameValue
public import Idealize.ShloMosaic.Lib.Pipeline.ValueKit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array the body fetches from: the first layer's weights, laid out in rows of sixteen runs of lanes. -/
def H0 : Finset (Ref sig .tc) := {main_call0_v0}
/-- The array the body writes by copies: the hidden layer. -/
def R0 : Finset (Ref sig .tc) := {main_v0_1}
theorem H0_sub : H0 ⊆ Pipeline.restRefs sig spec0 := by decide
theorem R0_sub : R0 ⊆ Pipeline.restRefs sig spec0 \ H0 := by decide

/-- The body's eight counters: four for the fetches, four for the copies out. -/
abbrev osem0 : Fin 8 → SemLoc sig := fun j => (![SemLoc.dma 5, SemLoc.dma 6, SemLoc.dma 7, SemLoc.dma 8, SemLoc.dma 9, SemLoc.dma 10,
  SemLoc.dma 11, SemLoc.dma 12] : Fin 8 → SemLoc sig) j
theorem ownSemFacts0 : Pipeline.OwnSemFacts spec0 osem0 := by decide
/-- The eight counters at zero, one by one. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl

/-- The hidden layer the body leaves, from the blocks it is given. -/
def latAt (c : Dev nD) : Vec F S128x4096 .f32 := latent (iblk m c 0 t0_0) (V m c main_call0_v0) (iblk m c 1 t0_0)

/-- The result the body leaves, from the blocks it is given. -/
def outAt (c : Dev nD) (t : Fin cfg0.N) : Vec F S128x10 .f32 :=
  out (iblk m c 0 t) (V m c main_call0_v0) (iblk m c 1 t) (iblk m c 2 t) (iblk m c 3 t)

/-- The contents at the end of the buffers the body writes by copies. -/
def G (c : Dev nD) : (b : Ref sig .tc) → Buf (Elt F) ((c : Thread nD τ).loc b) := Function.update (V m c) main_v0_1 (latAt m c)

theorem G_lat (c : Dev nD) : G m c main_v0_1 = latAt m c := Function.update_self _ _ _

/-- The data of the region on core `c`: the inputs' blocks stay, the result's is `outAt`; the hidden layer is as found before the
    body and `latAt` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ p := if p.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_4 (c : Dev nD) (t : Fin cfg0.N) : (dats m 0 c).after 4 t = outAt m c t := by dsimp only [dats]
/-- An input's block is in its buffer when the body starts, and stays there. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)

/-- What the body finds besides its windows. -/
theorem Phi_first (c : Dev nD) (t : Fin cfg0.N) :
    (dats m 0 c).Φ t.castSucc = Pipeline.ΦDRG osem0 spec0 H0 R0 (V m) (V m) c := by
  obtain rfl := fin_N0 t; rfl
/-- What it leaves besides its windows. -/
theorem Phi_last (c : Dev nD) (t : Fin cfg0.N) :
    (dats m 0 c).Φ t.succ = Pipeline.ΦDRG osem0 spec0 H0 R0 (V m) (G m) c := by
  obtain rfl := fin_N0 t; rfl

/-- The invariant spelled out: scratch, generator, counters, the weights, the hidden layer at `W`. -/
theorem Phi_list (c : Dev nD) (W : (c : Dev nD) → (b : Ref sig .tc) → Buf (Elt F) ((c : Thread nD τ).loc b)) :
    (Pipeline.ΦDRG osem0 spec0 H0 R0 (V m) W c : sProp 𝕄) =
      iprop(((∃ f, wbuf.view.loc (c : Thread nD τ) ↦{fullShare} f) ∗ (∃ f, stg.view.loc (c : Thread nD τ) ↦{fullShare} f))
        ∗ (∃ r, prngReg c r)
        ∗ (semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
        ∗ (w1h.view.loc (c : Thread nD τ) ↦{fullShare} V m c main_call0_v0) ∗ (lat.view.loc (c : Thread nD τ) ↦{fullShare} W c main_v0_1)) := by
  rw [Pipeline.ΦDRG_eq, scopedRest0_eq, ownSems0_list]
  unfold H0 R0
  rw [Pipeline.routed_singleton, BI.bigSep_singleton]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A whole memref is held through its set. -/
theorem whole_pt (c : Dev nD) (f : bufOf (F := F) c w1h) :
    (w1h.view.loc (c : Thread nD τ) ↦{fullShare} f : sProp 𝕄) = pt c w1h f := by
  unfold pt
  rw [(Memref.isWhole_whole main_call0_v0 : w1h.IsWhole).set_eq_univ]

set_option maxHeartbeats 3200000 in
/-- The body at the one grid point: from the blocks and the scratch to the result, the hidden layer and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, Phi_list, Phi_list, G_lat]
  simp only [before0_0, before0_1, before0_2, before0_3, after0_0, after0_1, after0_2, after0_3, after0_4]
  unfold Dat.owesAt Pipeline.owesWithin
  rw [show (dats m 0 c).owed t.castSucc = 0 from rfl, show (dats m 0 c).owed t.succ = 0 from rfl]
  rw [lat_blocks, lat_blocks]
  unfold owns
  iintro ⟨⟨⟨HA, HB⟩, Hg, ⟨Hq5, Hq6, Hq7, Hq8, Hq9, Hq10, Hq11, Hq12⟩, Hw, Hl0, Hl1, Hl2, Hl3, Hl4, Hl5, Hl6, Hl7⟩, ⟨%W, -, HW⟩,
    ⟨%d0, %f0, %e0, H0⟩, ⟨%d1, %f1, %e1, H1⟩, ⟨%d2, %f2, %e2, H2⟩, ⟨%d3, %f3, %e3, H3⟩, ⟨%d4, %f4, %e4, H4⟩⟩
  ihave HA := (wbuf_split c) $$ HA
  icases HA with ⟨⟨%g0, HA0⟩, ⟨%g1, HA1⟩, ⟨%g2, HA2⟩, ⟨%g3, HA3⟩⟩
  ihave HB := (stg_split c) $$ HB
  icases HB with ⟨⟨%s0, HB0⟩, ⟨%s1, HB1⟩, ⟨%s2, HB2⟩, ⟨%s3, HB3⟩⟩
  ihave Hw := (Entails.of_eq (whole_pt c (V m c main_call0_v0))) $$ Hw
  obtain rfl := fin_N0 t
  iapply (body_run c (st0_0 t0_0) (hstage0_0 0) (st0_1 t0_0) (hstage0_1 0) (st0_2 t0_0) (hstage0_2 0) (st0_3 t0_0) (hstage0_3 0)
    (st0_4 t0_0) (hstage0_4 0) f0 f1 f2 f3 f4 (V m c main_call0_v0) (V m c main_v0_1) g0 g1 g2 g3 s0 s1 s2 s3 W _)
  isplitl [H0]; · iexact H0
  isplitl [H1]; · iexact H1
  isplitl [H2]; · iexact H2
  isplitl [H3]; · iexact H3
  isplitl [H4]; · iexact H4
  isplitl [Hw]; · iexact Hw
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hl6]; · iexact Hl6
  isplitl [Hl7]; · iexact Hl7
  isplitl [HA0]; · iexact HA0
  isplitl [HA1]; · iexact HA1
  isplitl [HA2]; · iexact HA2
  isplitl [HA3]; · iexact HA3
  isplitl [HB0]; · iexact HB0
  isplitl [HB1]; · iexact HB1
  isplitl [HB2]; · iexact HB2
  isplitl [HB3]; · iexact HB3
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [HW]; · iexact HW
  rw [e0, e1, e2, e3]
  iintro ⟨H0, H1, H2, H3, ⟨%f4', %e4', H4⟩, Hw, Hl0, Hl1, Hl2, Hl3, Hl4, Hl5, Hl6, Hl7, HA0, HA1, HA2, HA3, HB0, HB1, HB2, HB3,
    Hq5, Hq6, Hq7, Hq8, Hq9, Hq10, Hq11, Hq12, ⟨%W', HW'⟩⟩
  ihave Hw := (Entails.of_eq (whole_pt c (V m c main_call0_v0)).symm) $$ Hw
  isplitl [HA0 HA1 HA2 HA3 HB0 HB1 HB2 HB3 Hg Hq5 Hq6 Hq7 Hq8 Hq9 Hq10 Hq11 Hq12 Hw Hl0 Hl1 Hl2 Hl3 Hl4 Hl5 Hl6 Hl7]
  · isplitl [HA0 HA1 HA2 HA3 HB0 HB1 HB2 HB3]
    · isplitl [HA0 HA1 HA2 HA3]
      · iapply (wbuf_join c)
        isplitl [HA0]; · iexact HA0
        isplitl [HA1]; · iexact HA1
        isplitl [HA2]; · iexact HA2
        iexact HA3
      iapply (stg_join c)
      isplitl [HB0]; · iexact HB0
      isplitl [HB1]; · iexact HB1
      isplitl [HB2]; · iexact HB2
      iexact HB3
    isplitl [Hg]; · iexact Hg
    isplitl [Hq5 Hq6 Hq7 Hq8 Hq9 Hq10 Hq11 Hq12]
    · isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hw]; · iexact Hw
    unfold latAt
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists f4'; isplitr
  · ipureintro; exact e4'
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The program up to the region: the three reshapes. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program runs; the windows' arrays, the hidden layer and every other array are known at the end, and every counter is zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

end Cert.KernelIdeal.Hand

end
-- ==== Proof.FinalIdeal.lean ====
/-
  What every array holds when the whole program has run, as functions of the arguments at the launch.
-/
module

public import proofs.«01_k».proof.Proof.RunIdeal
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The hidden layer as a function of the arguments: the weights' list laid out in rows, the bias as one row. -/
def latentOf (x : Vec F S128x2048 .f32) (vals : Vec F S8388608 .f32) (b : Vec F S4096 .f32) : Vec F S128x4096 .f32 :=
  latent x (shapeCast S4096x16x128 vals shapeCasts_S8388608_S4096x16x128) (shapeCast S1x4096 b shapeCasts_S4096_S1x4096)

/-- The result as a function of the arguments. -/
def outOf (x : Vec F S128x2048 .f32) (vals : Vec F S8388608 .f32) (b : Vec F S4096 .f32) (v : Vec F S10x4096 .f32) (d : Vec F S10 .f32) :
    Vec F S128x10 .f32 :=
  out x (shapeCast S4096x16x128 vals shapeCasts_S8388608_S4096x16x128) (shapeCast S1x4096 b shapeCasts_S4096_S1x4096) v
    (shapeCast S1x10 d shapeCasts_S10_S1x10)

/-- The region finds the weights' list laid out in rows, -/
theorem V_weights (c : Dev nD) : V m c main_call0_v0 =
    shapeCast S4096x16x128 (m ((c : Thread nD τ).loc main_arg1)) shapeCasts_S8388608_S4096x16x128 := by
  entry_read
  rfl

/-- the first bias as one row, -/
theorem V_bias (c : Dev nD) : V m c main_call0_v1 =
    shapeCast S1x4096 (m ((c : Thread nD τ).loc main_arg2)) shapeCasts_S4096_S1x4096 := by
  entry_read
  rfl

/-- and the second bias as one row. -/
theorem V_bias2 (c : Dev nD) : V m c main_call0_v2 =
    shapeCast S1x10 (m ((c : Thread nD τ).loc main_arg4)) shapeCasts_S10_S1x10 := by
  entry_read
  rfl

/-- Every window's block is the one at index zero. -/
theorem idx0 : ∀ t : Fin grid0.N, win0_0.index t = ![0, 0] ∧ win0_1.index t = ![0, 0] ∧ win0_2.index t = ![0, 0] ∧ win0_3.index t = ![0, 0] := by
  decide +kernel

/-- Each input's block is its whole array. -/
theorem iblk0 (c : Dev nD) : iblk m c 0 t0_0 = V m c main_arg0 := by
  funext j; blk_ext [iblk, idx0 t0_0]
theorem iblk1 (c : Dev nD) : iblk m c 1 t0_0 = V m c main_call0_v1 := by
  funext j; blk_ext [iblk, idx0 t0_0]
theorem iblk2 (c : Dev nD) : iblk m c 2 t0_0 = V m c main_arg3 := by
  funext j; blk_ext [iblk, idx0 t0_0]
theorem iblk3 (c : Dev nD) : iblk m c 3 t0_0 = V m c main_call0_v2 := by
  funext j; blk_ext [iblk, idx0 t0_0]

/-- The hidden layer the body leaves is `latentOf` of the arguments, -/
theorem latAt_eq (c : Dev nD) : latAt m c = latentOf (m ((c : Thread nD τ).loc main_arg0)) (m ((c : Thread nD τ).loc main_arg1))
    (m ((c : Thread nD τ).loc main_arg2)) := by
  unfold latAt latentOf
  rw [iblk0, iblk1, V_weights, V_bias, V_main_arg0]

/-- and the result it leaves is `outOf` of the arguments. -/
theorem outAt_eq (c : Dev nD) : outAt m c t0_0 = outOf (m ((c : Thread nD τ).loc main_arg0)) (m ((c : Thread nD τ).loc main_arg1))
    (m ((c : Thread nD τ).loc main_arg2)) (m ((c : Thread nD τ).loc main_arg3)) (m ((c : Thread nD τ).loc main_arg4)) := by
  unfold outAt outOf
  rw [iblk0, iblk1, iblk2, iblk3, V_weights, V_bias, V_bias2, V_main_arg0, V_main_arg3]

/-- The result's array after the region is what the body left. -/
theorem arr_out (c : Dev nD) : (dats m 0 c).arrAt 4 cfg0.N = outAt m c t0_0 :=
  (dats m 0 c).arrAt_eq_of_after_last 4 t0_0 (by decide +kernel) _ fun j => by
    blk_simp
    rw [after0_4]
    blk_ext []

/-- The whole program runs: the two results are these functions of the arguments, the arguments end unchanged, every counter is zero. -/
theorem run_values : θ_run defs (onTc (τ := τ) (main (F := F))) ⟨m, fun _ => 0, ρ⟩ (fun r => (∀ c : Dev nD,
      r.2.mem ((c.tc : Thread nD τ).loc main_v0_0) = outOf (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_v0_1) = latentOf (m ((c : Thread nD τ).loc main_arg0)) (m ((c : Thread nD τ).loc main_arg1))
        (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => by
    have rest : ∀ (c : Dev nD) (b : Ref sig .tc), b ∈ Pipeline.restRefs sig spec0 → b ∉ R0 →
        r.2.mem ((c.tc : Thread nD τ).loc b) = V m c b := fun c b h1 h2 => (h.1.1 c).2 b (Finset.mem_sdiff.mpr ⟨h1, h2⟩)
    refine ⟨fun c => ⟨?_, ?_, ?_, ?_, ?_, ?_, ?_, ?_, ?_⟩, h.2⟩
    · exact ((h.1.1 c).1 4).trans ((arr_out m c).trans (outAt_eq m c))
    · exact (h.1.written c (b := main_v0_1) (by decide)).trans ((G_lat m c).trans (latAt_eq m c))
    · exact ((h.1.1 c).1 0).trans (((dats m 0 c).arrAt_in 0 rfl _).trans ((A_eq m c 0).trans (V_main_arg0 m c)))
    · exact (rest c main_arg1 (Pipeline.mem_restRefs_of main_arg1 (by decide) (by decide)) (by decide)).trans (V_main_arg1 m c)
    · exact (rest c main_arg2 (Pipeline.mem_restRefs_of main_arg2 (by decide) (by decide)) (by decide)).trans (V_main_arg2 m c)
    · exact ((h.1.1 c).1 2).trans (((dats m 0 c).arrAt_in 2 rfl _).trans ((A_eq m c 2).trans (V_main_arg3 m c)))
    · exact (rest c main_arg4 (Pipeline.mem_restRefs_of main_arg4 (by decide) (by decide)) (by decide)).trans (V_main_arg4 m c)
    · exact (rest c main_arg5 (Pipeline.mem_restRefs_of main_arg5 (by decide) (by decide)) (by decide)).trans (V_main_arg5 m c)
    · exact (rest c main_arg6 (Pipeline.mem_restRefs_of main_arg6 (by decide) (by decide)) (by decide)).trans (V_main_arg6 m c))
    (run_main m ρ)

end Cert.KernelIdeal.Hand

end
-- ==== Proof.Scatter.lean ====
/-
  The reference's weight matrix. A scatter of one scalar per edge into a matrix, the edge's row and column given by two index
  words, puts each edge's value at that row and column. When the edge lists enumerate the matrix row by row, the matrix holds
  the edge values in row-major order.
-/
module

public import Idealize.ShloMosaic.Lib.Routing.OpsSet
public import Idealize.ShloMosaic.Lib.Pointwise

@[expose] public section

noncomputable section

namespace Cert.Mathematics

open Idealize.ShloMosaic

/-- The position at which edge `a` reads its index word for axis `q`. -/
theorem index_word_at {R C N : Nat} (d : ScatterDims ⟨2, ![R, C]⟩ ⟨2, ![N, 2]⟩ ⟨1, ![N]⟩)
    (huw : d.updateWindowDims = []) (hsd : d.scatterDimsToOperandDims = [0, 1]) (hivd : d.indexVectorDim = 1)
    (a : Fin N) (q : Fin 2) (hq : d.scatterDimsToOperandDims.idxOf q < d.scatterDimsToOperandDims.length) :
    d.siIdx (ValueIdx.ix1 a) ⟨d.scatterDimsToOperandDims.idxOf q, hq⟩ = ValueIdx.ix2 a q := by
  obtain ⟨uw, iw, sd, iv, wf⟩ := d
  dsimp only at huw hsd hivd
  subst huw hsd hivd
  funext b
  fin_cases q <;> fin_cases b <;> rfl

/-- Edge `a`'s value lands in row `r`, column `c` exactly when its two index words, read signed, are `r` and `c`. -/
theorem edge_lands {R C N w : Nat} (d : ScatterDims ⟨2, ![R, C]⟩ ⟨2, ![N, 2]⟩ ⟨1, ![N]⟩)
    (huw : d.updateWindowDims = []) (hiw : d.insertedWindowDims = [0, 1]) (hsd : d.scatterDimsToOperandDims = [0, 1])
    (hivd : d.indexVectorDim = 1) (idx : IVec ⟨2, ![N, 2]⟩ w) (a : Fin N) (r : Fin R) (c : Fin C) :
    d.resultIdx? (ValueIdx.ix1 a) idx = some (ValueIdx.ix2 r c)
      ↔ (idx (ValueIdx.ix2 a 0)).toInt = r.val ∧ (idx (ValueIdx.ix2 a 1)).toInt = c.val := by
  have named : ∀ q : Fin 2, q ∈ d.scatterDimsToOperandDims := by
    intro q; rw [hsd]; fin_cases q <;> simp
  have noWindow : ∀ q : Fin 2, d.window (ValueIdx.ix1 a) q = 0 := by
    intro q
    refine dif_neg fun h => ?_
    have := (List.mem_filter.1 h).2
    rw [hiw] at this
    fin_cases q <;> simp at this
  have begins : ∀ q : Fin 2, d.start (ValueIdx.ix1 a) idx q = (idx (ValueIdx.ix2 a q)).toInt := by
    intro q
    refine (dif_pos (named q)).trans ?_
    rw [index_word_at d huw hsd hivd a q]
  rw [Routing.resultIdx?_ix2, begins, begins, noWindow, noWindow]
  simp

end Cert.Mathematics

end
-- ==== Proof.Reference.lean ====
/-
  The reference's results as functions of its arguments, and its run in these terms. When the edge lists enumerate the weight
  matrix row by row, the scattered matrix holds the edge values in row-major order.
-/
module

public import proofs.«01_k».proof.Proof.Scatter
public import proofs.«01_k».proof.Proof.Gen.ReferenceIdeal.Run
public import Idealize.ShloMosaic.Lib.Pointwise
public import Idealize.ShloMosaic.Lib.Quiescent
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- An index list with its negative entries counted from the end of an axis of extent `n`. -/
def wrapped (n : BitVec 32) (l : IVec S8388608 32) : IVec S8388608 32 :=
  select (cmpi .slt l (broadcastInDim S8388608 ![] bcast_S_S8388608 (constantI S_ 32 0#32)))
    (addi l (broadcastInDim S8388608 ![] bcast_S_S8388608 (constantI S_ 32 n))) l

/-- The two index words of each edge: its row and its column. -/
def words (rows cols : IVec S8388608 32) : IVec S8388608x2 32 :=
  concatenate S8388608x2 1
    [⟨S8388608x1, broadcastInDim S8388608x1 ![0] bcast_S8388608_S8388608x1_0 (wrapped 4096#32 rows)⟩,
     ⟨S8388608x1, broadcastInDim S8388608x1 ![0] bcast_S8388608_S8388608x1_0 (wrapped 2048#32 cols)⟩]
    concatenates_S8388608x1_S8388608x1_S8388608x2_d1

/-- The weight matrix: zero, with every edge's value set at its row and column. -/
def weights (rows cols : IVec S8388608 32) (vals : Vec F S8388608 .f32) : Vec F S4096x2048 .f32 :=
  Host.scatter scatter_S4096x2048_S8388608x2_S8388608_n_01_01_1 (fun _ b => b)
    (broadcastInDim S4096x2048 ![] bcast_S_S4096x2048 (constant S_ .f32 0x00000000#32)) (words rows cols) vals

/-- The first layer: the batch times the transposed weight, plus the bias, clamped below at zero. -/
def hidden (x : Vec F S128x2048 .f32) (w : Vec F S4096x2048 .f32) (b : Vec F S4096 .f32) : Vec F S128x4096 .f32 :=
  maximumf
    (addf (Host.dotGeneral dot_S128x2048_S2048x4096_S128x4096_1_0_0_1_n_n none x
        (transpose S2048x4096 [1, 0] w transposes_S4096x2048_S2048x4096_1_0))
      (broadcastInDim S128x4096 ![0, 1] bcast_S1x4096_S128x4096_0_1 (broadcastInDim S1x4096 ![1] bcast_S4096_S1x4096_1 b)))
    (broadcastInDim S128x4096 ![] bcast_S_S128x4096 (constant S_ .f32 0x00000000#32))

/-- The second layer: the hidden layer times the transposed second weight, plus its bias. -/
def result (h : Vec F S128x4096 .f32) (v : Vec F S10x4096 .f32) (d : Vec F S10 .f32) : Vec F S128x10 .f32 :=
  addf (Host.dotGeneral dot_S128x4096_S4096x10_S128x10_1_0_0_1_n_n none h
      (transpose S4096x10 [1, 0] v transposes_S10x4096_S4096x10_1_0))
    (broadcastInDim S128x10 ![0, 1] bcast_S1x10_S128x10_0_1 (broadcastInDim S1x10 ![1] bcast_S10_S1x10_1 d))

/-- The reference ends with its two results at these functions of the arguments, the arguments as they were, and every
    counter at zero. -/
theorem run_values (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v25)
          = result (hidden (m ((c.tc : Thread nD τ).loc main_arg0))
              (weights (m ((c.tc : Thread nD τ).loc main_arg5)) (m ((c.tc : Thread nD τ).loc main_arg6))
                (m ((c.tc : Thread nD τ).loc main_arg1))) (m ((c.tc : Thread nD τ).loc main_arg2)))
            (m ((c.tc : Thread nD τ).loc main_arg3)) (m ((c.tc : Thread nD τ).loc main_arg4))
      ∧ r.2.mem ((c.tc : Thread nD τ).loc main_v20)
          = hidden (m ((c.tc : Thread nD τ).loc main_arg0))
              (weights (m ((c.tc : Thread nD τ).loc main_arg5)) (m ((c.tc : Thread nD τ).loc main_arg6))
                (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨h, sem_eq_zero_of_no_sems (by decide) _⟩) (Cert.ReferenceIdeal.Value.run m ρ)

/-- An entry that is not negative stays as it is. -/
theorem wrapped_at (n : BitVec 32) (l : IVec S8388608 32) (a : Fin 8388608) (j : ℕ) (hj : j < 2 ^ 31)
    (hl : l (ix1 a) = BitVec.ofNat 32 j) : wrapped n l (ix1 a) = BitVec.ofNat 32 j := by
  pointwise [wrapped]
  rw [hl]
  refine Routing.wrap_of_lt _ _ ?_
  rw [BitVec.toNat_ofNat]
  omega

theorem words_row (rows cols : IVec S8388608 32) (a : Fin 8388608) : words rows cols (ix2 a 0) = wrapped 4096#32 rows (ix1 a) := by
  pointwise [words]

theorem words_col (rows cols : IVec S8388608 32) (a : Fin 8388608) : words rows cols (ix2 a 1) = wrapped 2048#32 cols (ix1 a) := by
  pointwise [words]

/-- Edge lists that name, edge by edge, the entries of the weight matrix in row-major order. -/
structure RowMajor (rows cols : IVec S8388608 32) : Prop where
  row : ∀ a : Fin 8388608, rows (ix1 a) = BitVec.ofNat 32 (a.val / 2048)
  col : ∀ a : Fin 8388608, cols (ix1 a) = BitVec.ofNat 32 (a.val % 2048)

/-- A small number read off a signed word is itself. -/
theorem signed_small (j : ℕ) (hj : j < 2 ^ 31) : (BitVec.ofNat 32 j).toInt = (j : Int) := by
  have e : (BitVec.ofNat 32 j).toNat = j := by rw [BitVec.toNat_ofNat]; omega
  rw [BitVec.toInt_eq_toNat_of_lt (by rw [e]; omega), e]

/-- Under row-major edge lists edge `a` lands in row `a / 2048`, column `a % 2048`. -/
theorem lands_iff {rows cols : IVec S8388608 32} (h : RowMajor rows cols) (a : Fin 8388608) (r : Fin 4096) (k : Fin 2048) :
    scatter_S4096x2048_S8388608x2_S8388608_n_01_01_1.resultIdx? (ValueIdx.ix1 a) (words rows cols) = some (ValueIdx.ix2 r k)
      ↔ a.val / 2048 = r.val ∧ a.val % 2048 = k.val := by
  rw [Cert.Mathematics.edge_lands _ rfl rfl rfl rfl, ← ix2_eq_valueIdx, ← ix2_eq_valueIdx, words_row, words_col,
    wrapped_at _ _ _ _ (by have := a.isLt; omega) (h.row a), wrapped_at _ _ _ _ (by omega) (h.col a),
    signed_small (a.val / 2048) (by have := a.isLt; omega), signed_small (a.val % 2048) (by omega)]
  omega

/-- Under row-major edge lists the weight matrix holds the edge values in row-major order. -/
theorem weights_at {rows cols : IVec S8388608 32} (h : RowMajor rows cols) (vals : Vec F S8388608 .f32) (r : Fin 4096) (k : Fin 2048) :
    weights rows cols vals (ix2 r k) = vals (ix1 ⟨r.val * 2048 + k.val, by have := r.isLt; have := k.isLt; omega⟩) := by
  have hr := r.isLt
  have hk := k.isLt
  rw [ix2_eq_valueIdx, ix1_eq_valueIdx]
  refine Routing.scatter_set_hit _ _ _ _ _ _ (fun u hu => ?_) (ValueIdx.ix1 ⟨r.val * 2048 + k.val, by omega⟩)
    ((lands_iff h _ r k).2 ⟨by dsimp only; omega, by dsimp only; omega⟩)
  rw [ValueIdx.eq_ix1 u] at hu ⊢
  have := (lands_iff h _ r k).1 hu
  exact congrArg (fun a => vals (ValueIdx.ix1 a)) (Fin.ext (by dsimp only; omega))

end Cert.ReferenceIdeal.Hand

end
-- ==== Proof.Layers.lean ====
/-
  Both programs' layers, read at an entry over the extended reals.
-/
module

public import proofs.«01_k».proof.Proof.Reference
public import proofs.«01_k».proof.Proof.FinalIdeal
public import Idealize.ShloMosaic.Lib.Pointwise

@[expose] public section

set_option maxRecDepth 16384

noncomputable section

namespace Cert.Layers

open Idealize.ShloMosaic

/-- The reference's first layer at an entry. -/
theorem reference_hidden (x : Vec Ideal Cert.ReferenceIdeal.S128x2048 .f32) (w : Vec Ideal Cert.ReferenceIdeal.S4096x2048 .f32)
    (b : Vec Ideal Cert.ReferenceIdeal.S4096 .f32) (r : Fin 128) (c : Fin 4096) :
    Cert.ReferenceIdeal.Hand.hidden x w b (ix2 r c) = max ((∑ k : Fin 2048, x (ix2 r k) * w (ix2 c k)) + b (ix1 c)) (0 : EReal) := by
  pointwise [Cert.ReferenceIdeal.Hand.hidden]

theorem reference_result (h : Vec Ideal Cert.ReferenceIdeal.S128x4096 .f32) (v : Vec Ideal Cert.ReferenceIdeal.S10x4096 .f32)
    (d : Vec Ideal Cert.ReferenceIdeal.S10 .f32) (r : Fin 128) (o : Fin 10) :
    Cert.ReferenceIdeal.Hand.result h v d (ix2 r o) = (∑ k : Fin 4096, h (ix2 r k) * v (ix2 o k) : EReal) + d (ix1 o) := by
  pointwise [Cert.ReferenceIdeal.Hand.result]

open Cert.KernelIdeal Cert.KernelIdeal.Gen Cert.KernelIdeal.Hand

theorem payload_hidden (t : Vec Ideal S1x512x16x128 .f32) (x : Vec Ideal S128x2048 .f32) (b : Vec Ideal S1x512 .f32) (r : Fin 128) (j : Fin 512) :
    k0_pay1 (F := Ideal) t x b (ix2 r j)
      = max ((∑ k : Fin 2048, x (ix2 r k) * t (ix4 0 j ⟨k.val / 128, by have := k.isLt; omega⟩ ⟨k.val % 128, by omega⟩)) + b (ix2 0 j)) (0 : EReal) := by
  pointwise [k0_pay1]

theorem payload_first (h : Vec Ideal S128x512 .f32) (v : Vec Ideal S10x512 .f32) (d : Vec Ideal S1x10 .f32) (r : Fin 128) (o : Fin 10) :
    k0_pay3 (F := Ideal) h v d (ix2 r o) = (∑ k : Fin 512, h (ix2 r k) * v (ix2 o k) : EReal) + d (ix2 0 o) := by
  pointwise [k0_pay3]

theorem payload_next (h : Vec Ideal S128x512 .f32) (v : Vec Ideal S10x512 .f32) (a : Vec Ideal S128x10 .f32) (r : Fin 128) (o : Fin 10) :
    k0_pay6 (F := Ideal) h v a (ix2 r o) = a (ix2 r o) + (∑ k : Fin 512, h (ix2 r k) * v (ix2 o k) : EReal) := by
  pointwise [k0_pay6]

/-- Block `i` of the weights, read off the edge values in row-major order. -/
theorem weight_block (vals : Vec Ideal S8388608 .f32) (i : Fin 8) (j : Fin 512) (k : Fin 2048) :
    wTile (F := Ideal) (shapeCast S4096x16x128 vals shapeCasts_S8388608_S4096x16x128) i
        (ix4 0 j ⟨k.val / 128, by have := k.isLt; omega⟩ ⟨k.val % 128, by omega⟩)
      = vals (ix1 ⟨(512 * i.val + j.val) * 2048 + k.val, by have := i.isLt; have := j.isLt; have := k.isLt; omega⟩) := by
  have hi := i.isLt
  have hj := j.isLt
  have hk := k.isLt
  have read : wTile (F := Ideal) (shapeCast S4096x16x128 vals shapeCasts_S8388608_S4096x16x128) i
        (ix4 0 j ⟨k.val / 128, by omega⟩ ⟨k.val % 128, by omega⟩)
      = View.ld (Val := Elt Ideal) (e' := .f32) (shapeCast S4096x16x128 vals shapeCasts_S8388608_S4096x16x128) (wRect i)
          (ix3 j ⟨k.val / 128, by omega⟩ ⟨k.val % 128, by omega⟩) := by
    pointwise [wTile]
  have place : (wRect i).emb (ix3 j ⟨k.val / 128, by omega⟩ ⟨k.val % 128, by omega⟩)
      = ix3 (⟨512 * i.val + j.val, by omega⟩ : Fin 4096) (⟨k.val / 128, by omega⟩ : Fin 16) (⟨k.val % 128, by omega⟩ : Fin 128) := by
    funext a
    match a with
    | ⟨0, _⟩ => exact Fin.ext (by show 512 * i.val + 1 * j.val = 512 * i.val + j.val; omega)
    | ⟨1, _⟩ => exact Fin.ext (by show 0 + 1 * (k.val / 128) = k.val / 128; omega)
    | ⟨2, _⟩ => exact Fin.ext (by show 0 + 1 * (k.val % 128) = k.val % 128; omega)
  have flat : shapeCast S4096x16x128 vals shapeCasts_S8388608_S4096x16x128
        (ix3 (⟨512 * i.val + j.val, by omega⟩ : Fin 4096) (⟨k.val / 128, by omega⟩ : Fin 16) (⟨k.val % 128, by omega⟩ : Fin 128))
      = vals (ix1 ⟨(512 * i.val + j.val) * 2048 + k.val, by omega⟩) := by
    pointwise
    refine congrArg (fun a => vals (ix1 a)) (Fin.ext ?_)
    dsimp only
    omega
  exact read.trans ((congrArg (shapeCast S4096x16x128 vals shapeCasts_S8388608_S4096x16x128) place).trans flat)

/-- Block `i` of a row `1 × 4096`. -/
theorem bias_block (b : Vec Ideal S4096 .f32) (i : Fin 8) (j : Fin 512) :
    View.ld (Val := Elt Ideal) (e' := .f32) (shapeCast S1x4096 b shapeCasts_S4096_S1x4096) (bRect i) (ix2 0 j)
      = b (ix1 ⟨512 * i.val + j.val, by have := i.isLt; have := j.isLt; omega⟩) := by
  have hi := i.isLt
  have hj := j.isLt
  have place : (bRect i).emb (ix2 0 j) = ix2 (0 : Fin 1) (⟨512 * i.val + j.val, by omega⟩ : Fin 4096) := by
    funext a
    match a with
    | ⟨0, _⟩ => rfl
    | ⟨1, _⟩ => exact Fin.ext (by show 512 * i.val + 1 * j.val = 512 * i.val + j.val; omega)
  refine (congrArg (shapeCast S1x4096 b shapeCasts_S4096_S1x4096) place).trans ?_
  pointwise

/-- Block `i` of the columns of the second weight. -/
theorem second_weight_block (v : Vec Ideal S10x4096 .f32) (i : Fin 8) (o : Fin 10) (j : Fin 512) :
    View.ld (Val := Elt Ideal) (e' := .f32) v (vRect i) (ix2 o j)
      = v (ix2 o ⟨512 * i.val + j.val, by have := i.isLt; have := j.isLt; omega⟩) := by
  refine congrArg v ?_
  funext a
  match a with
  | ⟨0, _⟩ => exact Fin.ext (by show 0 + 1 * o.val = o.val; omega)
  | ⟨1, _⟩ => exact Fin.ext (by show 512 * i.val + 1 * j.val = 512 * i.val + j.val; omega)

theorem whole_input (x : Vec Ideal S128x2048 .f32) : xAll (F := Ideal) x = x := by
  funext y
  refine congrArg x ?_
  funext a
  match a with
  | ⟨0, _⟩ => exact Fin.ext (by show 0 + 1 * (y 0).val = (y 0).val; omega)
  | ⟨1, _⟩ => exact Fin.ext (by show 0 + 1 * (y 1).val = (y 1).val; omega)

theorem second_bias (d : Vec Ideal S10 .f32) (o : Fin 10) :
    View.ld (Val := Elt Ideal) (e' := .f32) (shapeCast S1x10 d shapeCasts_S10_S1x10)
        (Rect.unit ![0, 0] S1x10.size inb_S1x10_S1x10_0_0) (ix2 0 o) = d (ix1 o) := by
  have place : (Rect.unit (s := S1x10) ![0, 0] S1x10.size inb_S1x10_S1x10_0_0).emb (ix2 0 o) = ix2 (0 : Fin 1) o := by
    funext a
    match a with
    | ⟨0, _⟩ => rfl
    | ⟨1, _⟩ => exact Fin.ext (by show 0 + 1 * o.val = o.val; omega)
  refine (congrArg (shapeCast S1x10 d shapeCasts_S10_S1x10) place).trans ?_
  pointwise

/-- An entry of the kernel's hidden layer, as computed in its block. -/
theorem hid_at (x : Vec Ideal S128x2048 .f32) (vals : Vec Ideal S8388608 .f32) (b : Vec Ideal S4096 .f32) (i : Fin 8) (r : Fin 128) (j : Fin 512) :
    hid (F := Ideal) x (shapeCast S4096x16x128 vals shapeCasts_S8388608_S4096x16x128) (shapeCast S1x4096 b shapeCasts_S4096_S1x4096) i (ix2 r j)
      = max ((∑ k : Fin 2048, x (ix2 r k) * vals (ix1 ⟨(512 * i.val + j.val) * 2048 + k.val, by
            have := i.isLt; have := j.isLt; have := k.isLt; omega⟩))
          + b (ix1 ⟨512 * i.val + j.val, by have := i.isLt; have := j.isLt; omega⟩)) (0 : EReal) :=
  (payload_hidden _ _ _ r j).trans (congrArg (fun e : EReal => max e 0) (congrArg₂ (fun e f : EReal => e + f)
    (Finset.sum_congr rfl fun k _ => congrArg₂ (fun e f : EReal => e * f) (congrFun (whole_input x) _) (weight_block vals i j k))
    (bias_block b i j)))

/-- An entry of the hidden layer is that of its block. -/
theorem latentOf_at (x : Vec Ideal S128x2048 .f32) (vals : Vec Ideal S8388608 .f32) (b : Vec Ideal S4096 .f32) (i : Fin 8) (r : Fin 128) (j : Fin 512) :
    latentOf (F := Ideal) x vals b (ix2 r ⟨512 * i.val + j.val, by have := i.isLt; have := j.isLt; omega⟩)
      = hid (F := Ideal) x (shapeCast S4096x16x128 vals shapeCasts_S8388608_S4096x16x128) (shapeCast S1x4096 b shapeCasts_S4096_S1x4096) i (ix2 r j) := by
  refine Eq.trans (congrArg (latentOf (F := Ideal) x vals b) ?_) (latent_block (F := Ideal) x _ _ i (ix2 r j))
  funext a
  match a with
  | ⟨0, _⟩ => exact Fin.ext (by show r.val = 0 + 1 * r.val; omega)
  | ⟨1, _⟩ => exact Fin.ext (by show 512 * i.val + j.val = 512 * i.val + 1 * j.val; omega)

/-- Under row-major edge lists the reference's hidden layer is the kernel's. -/
theorem hidden_eq {rows cols : IVec Cert.ReferenceIdeal.S8388608 32} (h : Cert.ReferenceIdeal.Hand.RowMajor rows cols)
    (x : Vec Ideal S128x2048 .f32) (vals : Vec Ideal S8388608 .f32) (b : Vec Ideal S4096 .f32) :
    Cert.ReferenceIdeal.Hand.hidden (F := Ideal) x (Cert.ReferenceIdeal.Hand.weights rows cols vals) b = latentOf (F := Ideal) x vals b := by
  funext y
  obtain ⟨r, c, rfl⟩ : ∃ (r : Fin 128) (c : Fin 4096), y = ix2 r c := ⟨y 0, y 1, eq_ix2 y⟩
  have hc := c.isLt
  obtain ⟨i, j, hij⟩ : ∃ (i : Fin 8) (j : Fin 512), c = ⟨512 * i.val + j.val, by have := i.isLt; have := j.isLt; omega⟩ :=
    ⟨⟨c.val / 512, by omega⟩, ⟨c.val % 512, by omega⟩, Fin.ext (by dsimp only; omega)⟩
  rw [hij, reference_hidden, latentOf_at, hid_at]
  simp only [Cert.ReferenceIdeal.Hand.weights_at h]

/-- The product of a block of the hidden layer with its block of the second weight. -/
def part (h : Vec Ideal S128x4096 .f32) (v : Vec Ideal S10x4096 .f32) (r : Fin 128) (o : Fin 10) (i : Fin 8) : EReal :=
  ∑ j : Fin 512, h (ix2 r ⟨512 * i.val + j.val, by have := i.isLt; have := j.isLt; omega⟩)
    * v (ix2 o ⟨512 * i.val + j.val, by have := i.isLt; have := j.isLt; omega⟩)

/-- A block's product, as the kernel computes it. -/
theorem part_at (x : Vec Ideal S128x2048 .f32) (vals : Vec Ideal S8388608 .f32) (b : Vec Ideal S4096 .f32) (v : Vec Ideal S10x4096 .f32)
    (r : Fin 128) (o : Fin 10) (i : Fin 8) :
    (∑ j : Fin 512, hid (F := Ideal) x (shapeCast S4096x16x128 vals shapeCasts_S8388608_S4096x16x128)
        (shapeCast S1x4096 b shapeCasts_S4096_S1x4096) i (ix2 r j)
      * View.ld (Val := Elt Ideal) (e' := .f32) v (vRect i) (ix2 o j) : EReal) = part (latentOf (F := Ideal) x vals b) v r o i :=
  Finset.sum_congr rfl fun j _ => congrArg₂ (fun e f : EReal => e * f) (latentOf_at x vals b i r j).symm (second_weight_block v i o j)

/-- The second layer over the first blocks: the sum of their products, and the bias. -/
theorem acc_at (x : Vec Ideal S128x2048 .f32) (vals : Vec Ideal S8388608 .f32) (b : Vec Ideal S4096 .f32) (v : Vec Ideal S10x4096 .f32)
    (d : Vec Ideal S10 .f32) (r : Fin 128) (o : Fin 10) : ∀ (n : ℕ) (hn : n < 8),
    acc (F := Ideal) x (shapeCast S4096x16x128 vals shapeCasts_S8388608_S4096x16x128) (shapeCast S1x4096 b shapeCasts_S4096_S1x4096) v
        (shapeCast S1x10 d shapeCasts_S10_S1x10) n hn (ix2 r o)
      = (∑ i : Fin (n + 1), part (latentOf (F := Ideal) x vals b) v r o ⟨i.val, by have := i.isLt; omega⟩) + d (ix1 o)
  | 0, _ => by
    rw [Fin.sum_univ_one]
    exact (payload_first _ _ _ r o).trans (congrArg₂ (fun e f : EReal => e + f) (part_at x vals b v r o 0) (second_bias d o))
  | n + 1, hn => by
    rw [Fin.sum_univ_castSucc (n := n + 1), add_right_comm]
    exact (payload_next _ _ _ r o).trans (congrArg₂ (fun e f : EReal => e + f) (acc_at x vals b v d r o n _)
      (part_at x vals b v r o ⟨n + 1, hn⟩))

/-- The reference's second layer of the kernel's hidden layer is the kernel's second layer. -/
theorem result_eq (x : Vec Ideal S128x2048 .f32) (vals : Vec Ideal S8388608 .f32) (b : Vec Ideal S4096 .f32) (v : Vec Ideal S10x4096 .f32)
    (d : Vec Ideal S10 .f32) :
    Cert.ReferenceIdeal.Hand.result (F := Ideal) (latentOf (F := Ideal) x vals b) v d = outOf (F := Ideal) x vals b v d := by
  funext y
  obtain ⟨r, o, rfl⟩ : ∃ (r : Fin 128) (o : Fin 10), y = ix2 r o := ⟨y 0, y 1, eq_ix2 y⟩
  refine Eq.trans ?_ (acc_at x vals b v d r o 7 (by decide)).symm
  rw [reference_result, Fin.sum_univ_tiles 8 512 rfl]
  refine congrArg (· + d (ix1 o)) (Finset.sum_congr rfl fun i _ => Finset.sum_congr rfl fun j _ => ?_)
  have e : i.val * 512 + j.val = 512 * i.val + j.val := by omega
  simp only [e]

end Cert.Layers

end
-- ==== Proof.Connectivity.lean ====
/-
  What the precondition says of the edge lists: edge by edge they name the entries of the weight matrix in row-major order.
-/
module

public import proofs.«01_k».proof.Proof.Reference
public import proofs.«01_k».proof.Proof.Gen.Pre_full_connectivity
public import Idealize.ShloMosaic.Lib.StableHlo.Predicate
public import Idealize.ShloMosaic.Lib.Pointwise

@[expose] public section

set_option maxRecDepth 16384

noncomputable section

namespace Cert.Connectivity

open Cert.Pre_full_connectivity Cert.Pre_full_connectivity.Gen
open Idealize.ShloMosaic

/-- Two bits whose conjunction is set are set. -/
theorem both_set : ∀ {a b : BitVec 1}, a &&& b = 1#1 → a = 1#1 ∧ b = 1#1 := by decide

/-- A list of edges laid out as a matrix, read at edge `a`'s place. -/
theorem laid_out (l : IVec S8388608 32) (a : Fin 8388608) :
    shapeCast S4096x2048 l shapeCasts_S8388608_S4096x2048
        (ix2 (⟨a.val / 2048, by have := a.isLt; omega⟩ : Fin 4096) (⟨a.val % 2048, by omega⟩ : Fin 2048)) = l (ix1 a) := by
  pointwise

theorem rowMajor_of {F : FTy → Type} [FloatOps F] {x : FVec F S128x2048 .f32} {vals : FVec F S8388608 .f32} {b : FVec F S4096 .f32}
    {v : FVec F S10x4096 .f32} {d : FVec F S10 .f32} {rows cols : IVec S8388608 32}
    (h : fn x vals b v d rows cols = fun _ => 1#1) : Cert.ReferenceIdeal.Hand.RowMajor rows cols := by
  have at_edge := fun a : Fin 8388608 => both_set (congrFun h
    (ix2 (⟨a.val / 2048, by have := a.isLt; omega⟩ : Fin 4096) (⟨a.val % 2048, by omega⟩ : Fin 2048)))
  exact ⟨fun a => (laid_out rows a).symm.trans (StableHlo.Predicate.cmpi_eq_iff.1 (at_edge a).1),
    fun a => (laid_out cols a).symm.trans (StableHlo.Predicate.cmpi_eq_iff.1 (at_edge a).2)⟩

end Cert.Connectivity

end
-- ==== Proof.lean ====
/-
  The claims of the certificate: the frames of the kernel, over words and over the extended reals, and of the reference, and
  the equality of their results over the extended reals under full connectivity of the edges.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_full_connectivity
public import proofs.«01_k».proof.Proof.Final
public import proofs.«01_k».proof.Proof.FinalIdeal
public import proofs.«01_k».proof.Proof.Reference
public import proofs.«01_k».proof.Proof.Layers
public import proofs.«01_k».proof.Proof.Connectivity
public import Idealize.ShloMosaic.Adequacy
public import Idealize.ShloMosaic.Init

@[expose] public section

noncomputable section

namespace Cert.Proof

open Idealize.ShloMosaic Idealize.ShloMosaic.TcCoe Idealize.SL.Sem

/-- The kernel over words leaves its arguments as they were and every counter at zero. -/
theorem kernel_frame : Cert.quiescent_Kernel := fun m g _ =>
  (θ_run _ _ _).mono (fun _ h => ⟨fun c => (h.1 c).2.2, h.2⟩) (Cert.Kernel.Hand.run_values (F := Bits) m g)

/-- The same of the kernel over the extended reals. -/
theorem kernelIdeal_frame : Cert.quiescent_KernelIdeal := fun m g _ =>
  (θ_run _ _ _).mono (fun _ h => ⟨fun c => (h.1 c).2.2, h.2⟩) (Cert.KernelIdeal.Hand.run_values (F := Ideal) m g)

/-- The same of the reference. -/
theorem referenceIdeal_frame : Cert.quiescent_ReferenceIdeal := fun m g _ =>
  (θ_run _ _ _).mono (fun _ h => ⟨fun c => (h.1 c).2.2, h.2⟩) (Cert.ReferenceIdeal.Hand.run_values (F := Ideal) m g)

/-- Over the extended reals, under full connectivity, the kernel's two results are the reference's. -/
theorem same_results : Cert.algebraic_KernelIdeal_ReferenceIdeal_pre_full_connectivity := by
  intro m g m' g' hpre hsame
  refine ⟨fun c => Cert.KernelIdeal.Hand.outOf (F := Ideal) (m ((c.tc).loc Cert.KernelIdeal.main_arg0)) (m ((c.tc).loc Cert.KernelIdeal.main_arg1))
      (m ((c.tc).loc Cert.KernelIdeal.main_arg2)) (m ((c.tc).loc Cert.KernelIdeal.main_arg3)) (m ((c.tc).loc Cert.KernelIdeal.main_arg4)),
    fun c => Cert.KernelIdeal.Hand.latentOf (F := Ideal) (m ((c.tc).loc Cert.KernelIdeal.main_arg0)) (m ((c.tc).loc Cert.KernelIdeal.main_arg1))
      (m ((c.tc).loc Cert.KernelIdeal.main_arg2)),
    (θ_run _ _ _).mono (fun _ h => h.1) (Cert.KernelIdeal.Hand.run_values (F := Ideal) m g),
    (θ_run _ _ _).mono (fun r h c => ?_) (Cert.ReferenceIdeal.Hand.run_values (F := Ideal) m' g')⟩
  obtain ⟨s0, s1, s2, s3, s4, s5, s6⟩ := hsame c
  obtain ⟨out, hid, args⟩ := h.1 c
  have rm := Cert.Connectivity.rowMajor_of (hpre c)
  rw [s0, s1, s2, s5, s6] at hid
  rw [s0, s1, s2, s3, s4, s5, s6] at out
  have hidden := Cert.Layers.hidden_eq rm (m ((c.tc).loc Cert.KernelIdeal.main_arg0)) (m ((c.tc).loc Cert.KernelIdeal.main_arg1))
    (m ((c.tc).loc Cert.KernelIdeal.main_arg2))
  exact ⟨out.trans ((congrArg (fun e => Cert.ReferenceIdeal.Hand.result (F := Ideal) e _ _) hidden).trans (Cert.Layers.result_eq _ _ _ _ _)),
    hid.trans hidden, args⟩

/-- Everything that the certificate claims. -/
theorem claim : Cert.Claim := ⟨Cert.Kernel.Gen.facts, Cert.KernelIdeal.Gen.facts, Cert.ReferenceIdeal.Gen.facts, Cert.Pre_full_connectivity.Gen.facts,
  kernel_frame, kernelIdeal_frame, fun m g _ => kernelIdeal_frame m g trivial, referenceIdeal_frame,
  fun m g _ => referenceIdeal_frame m g trivial, trivial, same_results⟩

end Cert.Proof

end
